-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![1, 1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v101) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x1024x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S4x256x1024 : Shape := ⟨3, ![4, 256, 1024]⟩
abbrev S2x4096x128 : Shape := ⟨3, ![2, 4096, 128]⟩
abbrev S8x4096x128 : Shape := ⟨3, ![8, 4096, 128]⟩
abbrev S3x256x1024 : Shape := ⟨3, ![3, 256, 1024]⟩
abbrev S3 : Shape := ⟨1, ![3]⟩
abbrev S8 : Shape := ⟨1, ![8]⟩
abbrev S1 : Shape := ⟨1, ![1]⟩
abbrev S_ : Shape := ⟨0, ![]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x1024 : Shape := ⟨2, ![256, 1024]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 14
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S4x256x1024, .bf16⟩
  | .local _ .vmem, ⟨5, _⟩ => ⟨S1024x1024, .bf16⟩
  | .local _ .vmem, ⟨6, _⟩ => ⟨S2x4096x128, .f32⟩
  | .local _ .vmem, ⟨7, _⟩ => ⟨S2x4096x128, .f32⟩
  | .local _ .vmem, ⟨8, _⟩ => ⟨S8x4096x128, .bf16⟩
  | .local _ .vmem, ⟨9, _⟩ => ⟨S8x4096x128, .bf16⟩
  | .local _ .vmem, ⟨10, _⟩ => ⟨S1024x1024, .bf16⟩
  | .local _ .vmem, ⟨11, _⟩ => ⟨S1024x1024, .bf16⟩
  | .local _ .vmem, ⟨12, _⟩ => ⟨S3x256x1024, .bf16⟩
  | .local _ .vmem, ⟨13, _⟩ => ⟨S3x256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32_13 : BitVec 32) : Fin 4 → Nat :=
  let c0_i32_14 : BitVec 32 := 0#32
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v25 : BitVec 32 := Scalar.muli v2 c8_i32
  let v26 : BitVec 32 := Scalar.addi v25 c0_i32_13
  let c0_i32_20 : BitVec 32 := 0#32
  ![0, 0, v26.toNat, 0]
def k0_dev1 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_52 : BitVec 32 := 1#32
  let v66 : BitVec 32 := Scalar.muli v24 c1_i32_52
  let v67 : BitVec 32 := Scalar.addi c0_i32_53 v66
  v67.toNat
def k0_dev2 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_55 : BitVec 32 := 1#32
  let v68 : BitVec 32 := Scalar.muli v13 c1_i32_55
  let v69 : BitVec 32 := Scalar.addi c0_i32_56 v68
  v69.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v139 : Index := Scalar.indexCast v2
  let c0_102 : Index := 0#32
  let c0_103 : Index := 0#32
  ![v139.toNat, 0, 0]
def k0_off3 (d0 : Dev nD) (c0_i32_64 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.subi v2 c0_i32_64
  let c4_i32_65 : BitVec 32 := 4#32
  let c0_i32_66 : BitVec 32 := 0#32
  let v82 : BitVec 1 := Scalar.cmpi .eq c4_i32_65 c0_i32_66
  let c1_i32_67 : BitVec 32 := 1#32
  let v83 : BitVec 32 := Scalar.select v82 c1_i32_67 c4_i32_65
  let v84 : BitVec 32 := Scalar.remsi v81 v83
  let c0_i32_69 : BitVec 32 := 0#32
  let v86 : BitVec 1 := Scalar.cmpi .slt v84 c0_i32_69
  let c0_i32_70 : BitVec 32 := 0#32
  let v87 : BitVec 1 := Scalar.cmpi .slt v83 c0_i32_70
  let v88 : BitVec 1 := Scalar.xori v86 v87
  let c0_i32_68 : BitVec 32 := 0#32
  let v85 : BitVec 1 := Scalar.cmpi .ne v84 c0_i32_68
  let v89 : BitVec 1 := Scalar.andi v88 v85
  let v90 : BitVec 32 := Scalar.addi v84 v83
  let v91 : BitVec 32 := Scalar.select v89 v90 v84
  let c0_i32_108 : BitVec 32 := 0#32
  let c0_i32_109 : BitVec 32 := 0#32
  ![v91.toNat, 0, 0]
def k0_dev3 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_106 : BitVec 32 := 1#32
  let v143 : BitVec 32 := Scalar.muli v13 c1_i32_106
  let v144 : BitVec 32 := Scalar.addi c0_i32_107 v143
  v144.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v213 : BitVec 32 := Scalar.muli v2 c256_i32
  let v214 : Index := Scalar.indexCast v213
  let c0_168 : Index := 0#32
  ![v214.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_218 : BitVec 32 := 256#32
  let v270 : BitVec 32 := Scalar.muli v2 c256_i32_218
  let v271 : Index := Scalar.indexCast v270
  let c128 : Index := 128#32
  ![v271.toNat, 128]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_269 : BitVec 32 := 256#32
  let v327 : BitVec 32 := Scalar.muli v2 c256_i32_269
  let v328 : Index := Scalar.indexCast v327
  let c256 : Index := 256#32
  ![v328.toNat, 256]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_319 : BitVec 32 := 256#32
  let v384 : BitVec 32 := Scalar.muli v2 c256_i32_319
  let v385 : Index := Scalar.indexCast v384
  let c384 : Index := 384#32
  ![v385.toNat, 384]
def k0_dev4 (d0 : Dev nD) : Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_337 : BitVec 32 := 1#32
  let v403 : BitVec 32 := Scalar.muli v13 c1_i32_337
  let v404 : BitVec 32 := Scalar.addi c0_i32_338 v403
  v404.toNat
def k0_off8 (d0 : Dev nD) (c1_i32_343 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v413 : BitVec 32 := Scalar.subi v2 c1_i32_343
  let c4_i32_344 : BitVec 32 := 4#32
  let c0_i32_345 : BitVec 32 := 0#32
  let v414 : BitVec 1 := Scalar.cmpi .eq c4_i32_344 c0_i32_345
  let c1_i32_346 : BitVec 32 := 1#32
  let v415 : BitVec 32 := Scalar.select v414 c1_i32_346 c4_i32_344
  let v416 : BitVec 32 := Scalar.remsi v413 v415
  let c0_i32_348 : BitVec 32 := 0#32
  let v418 : BitVec 1 := Scalar.cmpi .slt v416 c0_i32_348
  let c0_i32_349 : BitVec 32 := 0#32
  let v419 : BitVec 1 := Scalar.cmpi .slt v415 c0_i32_349
  let v420 : BitVec 1 := Scalar.xori v418 v419
  let c0_i32_347 : BitVec 32 := 0#32
  let v417 : BitVec 1 := Scalar.cmpi .ne v416 c0_i32_347
  let v421 : BitVec 1 := Scalar.andi v420 v417
  let v422 : BitVec 32 := Scalar.addi v416 v415
  let v423 : BitVec 32 := Scalar.select v421 v422 v416
  let v424 : Index := Scalar.indexCast v423
  let c0_350 : Index := 0#32
  let c0_351 : Index := 0#32
  ![v424.toNat, 0, 0]
def k0_off9 (d0 : Dev nD) (c1_i32_343 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v413 : BitVec 32 := Scalar.subi v2 c1_i32_343
  let c4_i32_344 : BitVec 32 := 4#32
  let c0_i32_345 : BitVec 32 := 0#32
  let v414 : BitVec 1 := Scalar.cmpi .eq c4_i32_344 c0_i32_345
  let c1_i32_346 : BitVec 32 := 1#32
  let v415 : BitVec 32 := Scalar.select v414 c1_i32_346 c4_i32_344
  let v416 : BitVec 32 := Scalar.remsi v413 v415
  let c0_i32_348 : BitVec 32 := 0#32
  let v418 : BitVec 1 := Scalar.cmpi .slt v416 c0_i32_348
  let c0_i32_349 : BitVec 32 := 0#32
  let v419 : BitVec 1 := Scalar.cmpi .slt v415 c0_i32_349
  let v420 : BitVec 1 := Scalar.xori v418 v419
  let c0_i32_347 : BitVec 32 := 0#32
  let v417 : BitVec 1 := Scalar.cmpi .ne v416 c0_i32_347
  let v421 : BitVec 1 := Scalar.andi v420 v417
  let v422 : BitVec 32 := Scalar.addi v416 v415
  let v423 : BitVec 32 := Scalar.select v421 v422 v416
  let c256_i32_365 : BitVec 32 := 256#32
  let v446 : BitVec 32 := Scalar.muli v423 c256_i32_365
  let v447 : Index := Scalar.indexCast v446
  let c0_366 : Index := 0#32
  ![v447.toNat, 0]
def k0_off10 (d0 : Dev nD) (c1_i32_343 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v413 : BitVec 32 := Scalar.subi v2 c1_i32_343
  let c4_i32_344 : BitVec 32 := 4#32
  let c0_i32_345 : BitVec 32 := 0#32
  let v414 : BitVec 1 := Scalar.cmpi .eq c4_i32_344 c0_i32_345
  let c1_i32_346 : BitVec 32 := 1#32
  let v415 : BitVec 32 := Scalar.select v414 c1_i32_346 c4_i32_344
  let v416 : BitVec 32 := Scalar.remsi v413 v415
  let c0_i32_348 : BitVec 32 := 0#32
  let v418 : BitVec 1 := Scalar.cmpi .slt v416 c0_i32_348
  let c0_i32_349 : BitVec 32 := 0#32
  let v419 : BitVec 1 := Scalar.cmpi .slt v415 c0_i32_349
  let v420 : BitVec 1 := Scalar.xori v418 v419
  let c0_i32_347 : BitVec 32 := 0#32
  let v417 : BitVec 1 := Scalar.cmpi .ne v416 c0_i32_347
  let v421 : BitVec 1 := Scalar.andi v420 v417
  let v422 : BitVec 32 := Scalar.addi v416 v415
  let v423 : BitVec 32 := Scalar.select v421 v422 v416
  let c256_i32_416 : BitVec 32 := 256#32
  let v503 : BitVec 32 := Scalar.muli v423 c256_i32_416
  let v504 : Index := Scalar.indexCast v503
  let c128_417 : Index := 128#32
  ![v504.toNat, 128]
def k0_off11 (d0 : Dev nD) (c1_i32_343 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v413 : BitVec 32 := Scalar.subi v2 c1_i32_343
  let c4_i32_344 : BitVec 32 := 4#32
  let c0_i32_345 : BitVec 32 := 0#32
  let v414 : BitVec 1 := Scalar.cmpi .eq c4_i32_344 c0_i32_345
  let c1_i32_346 : BitVec 32 := 1#32
  let v415 : BitVec 32 := Scalar.select v414 c1_i32_346 c4_i32_344
  let v416 : BitVec 32 := Scalar.remsi v413 v415
  let c0_i32_348 : BitVec 32 := 0#32
  let v418 : BitVec 1 := Scalar.cmpi .slt v416 c0_i32_348
  let c0_i32_349 : BitVec 32 := 0#32
  let v419 : BitVec 1 := Scalar.cmpi .slt v415 c0_i32_349
  let v420 : BitVec 1 := Scalar.xori v418 v419
  let c0_i32_347 : BitVec 32 := 0#32
  let v417 : BitVec 1 := Scalar.cmpi .ne v416 c0_i32_347
  let v421 : BitVec 1 := Scalar.andi v420 v417
  let v422 : BitVec 32 := Scalar.addi v416 v415
  let v423 : BitVec 32 := Scalar.select v421 v422 v416
  let c256_i32_467 : BitVec 32 := 256#32
  let v560 : BitVec 32 := Scalar.muli v423 c256_i32_467
  let v561 : Index := Scalar.indexCast v560
  let c256_468 : Index := 256#32
  ![v561.toNat, 256]
def k0_off12 (d0 : Dev nD) (c1_i32_343 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v413 : BitVec 32 := Scalar.subi v2 c1_i32_343
  let c4_i32_344 : BitVec 32 := 4#32
  let c0_i32_345 : BitVec 32 := 0#32
  let v414 : BitVec 1 := Scalar.cmpi .eq c4_i32_344 c0_i32_345
  let c1_i32_346 : BitVec 32 := 1#32
  let v415 : BitVec 32 := Scalar.select v414 c1_i32_346 c4_i32_344
  let v416 : BitVec 32 := Scalar.remsi v413 v415
  let c0_i32_348 : BitVec 32 := 0#32
  let v418 : BitVec 1 := Scalar.cmpi .slt v416 c0_i32_348
  let c0_i32_349 : BitVec 32 := 0#32
  let v419 : BitVec 1 := Scalar.cmpi .slt v415 c0_i32_349
  let v420 : BitVec 1 := Scalar.xori v418 v419
  let c0_i32_347 : BitVec 32 := 0#32
  let v417 : BitVec 1 := Scalar.cmpi .ne v416 c0_i32_347
  let v421 : BitVec 1 := Scalar.andi v420 v417
  let v422 : BitVec 32 := Scalar.addi v416 v415
  let v423 : BitVec 32 := Scalar.select v421 v422 v416
  let c256_i32_503 : BitVec 32 := 256#32
  let v603 : BitVec 32 := Scalar.muli v423 c256_i32_503
  let v604 : Index := Scalar.indexCast v603
  let c384_504 : Index := 384#32
  ![v604.toNat, 384]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_539 : BitVec 32 := 256#32
  let v646 : BitVec 32 := Scalar.muli v2 c256_i32_539
  let v647 : Index := Scalar.indexCast v646
  let c512 : Index := 512#32
  ![v647.toNat, 512]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_549 : BitVec 32 := 256#32
  let v665 : BitVec 32 := Scalar.muli v2 c256_i32_549
  let v666 : Index := Scalar.indexCast v665
  let c640 : Index := 640#32
  ![v666.toNat, 640]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_559 : BitVec 32 := 256#32
  let v684 : BitVec 32 := Scalar.muli v2 c256_i32_559
  let v685 : Index := Scalar.indexCast v684
  let c768 : Index := 768#32
  ![v685.toNat, 768]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_569 : BitVec 32 := 256#32
  let v703 : BitVec 32 := Scalar.muli v2 c256_i32_569
  let v704 : Index := Scalar.indexCast v703
  let c896 : Index := 896#32
  ![v704.toNat, 896]
def k0_off17 (d0 : Dev nD) (c1_i32_343 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v413 : BitVec 32 := Scalar.subi v2 c1_i32_343
  let c4_i32_344 : BitVec 32 := 4#32
  let c0_i32_345 : BitVec 32 := 0#32
  let v414 : BitVec 1 := Scalar.cmpi .eq c4_i32_344 c0_i32_345
  let c1_i32_346 : BitVec 32 := 1#32
  let v415 : BitVec 32 := Scalar.select v414 c1_i32_346 c4_i32_344
  let v416 : BitVec 32 := Scalar.remsi v413 v415
  let c0_i32_348 : BitVec 32 := 0#32
  let v418 : BitVec 1 := Scalar.cmpi .slt v416 c0_i32_348
  let c0_i32_349 : BitVec 32 := 0#32
  let v419 : BitVec 1 := Scalar.cmpi .slt v415 c0_i32_349
  let v420 : BitVec 1 := Scalar.xori v418 v419
  let c0_i32_347 : BitVec 32 := 0#32
  let v417 : BitVec 1 := Scalar.cmpi .ne v416 c0_i32_347
  let v421 : BitVec 1 := Scalar.andi v420 v417
  let v422 : BitVec 32 := Scalar.addi v416 v415
  let v423 : BitVec 32 := Scalar.select v421 v422 v416
  let c256_i32_579 : BitVec 32 := 256#32
  let v722 : BitVec 32 := Scalar.muli v423 c256_i32_579
  let v723 : Index := Scalar.indexCast v722
  let c512_580 : Index := 512#32
  ![v723.toNat, 512]
def k0_off18 (d0 : Dev nD) (c1_i32_343 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v413 : BitVec 32 := Scalar.subi v2 c1_i32_343
  let c4_i32_344 : BitVec 32 := 4#32
  let c0_i32_345 : BitVec 32 := 0#32
  let v414 : BitVec 1 := Scalar.cmpi .eq c4_i32_344 c0_i32_345
  let c1_i32_346 : BitVec 32 := 1#32
  let v415 : BitVec 32 := Scalar.select v414 c1_i32_346 c4_i32_344
  let v416 : BitVec 32 := Scalar.remsi v413 v415
  let c0_i32_348 : BitVec 32 := 0#32
  let v418 : BitVec 1 := Scalar.cmpi .slt v416 c0_i32_348
  let c0_i32_349 : BitVec 32 := 0#32
  let v419 : BitVec 1 := Scalar.cmpi .slt v415 c0_i32_349
  let v420 : BitVec 1 := Scalar.xori v418 v419
  let c0_i32_347 : BitVec 32 := 0#32
  let v417 : BitVec 1 := Scalar.cmpi .ne v416 c0_i32_347
  let v421 : BitVec 1 := Scalar.andi v420 v417
  let v422 : BitVec 32 := Scalar.addi v416 v415
  let v423 : BitVec 32 := Scalar.select v421 v422 v416
  let c256_i32_590 : BitVec 32 := 256#32
  let v741 : BitVec 32 := Scalar.muli v423 c256_i32_590
  let v742 : Index := Scalar.indexCast v741
  let c640_591 : Index := 640#32
  ![v742.toNat, 640]
def k0_off19 (d0 : Dev nD) (c1_i32_343 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v413 : BitVec 32 := Scalar.subi v2 c1_i32_343
  let c4_i32_344 : BitVec 32 := 4#32
  let c0_i32_345 : BitVec 32 := 0#32
  let v414 : BitVec 1 := Scalar.cmpi .eq c4_i32_344 c0_i32_345
  let c1_i32_346 : BitVec 32 := 1#32
  let v415 : BitVec 32 := Scalar.select v414 c1_i32_346 c4_i32_344
  let v416 : BitVec 32 := Scalar.remsi v413 v415
  let c0_i32_348 : BitVec 32 := 0#32
  let v418 : BitVec 1 := Scalar.cmpi .slt v416 c0_i32_348
  let c0_i32_349 : BitVec 32 := 0#32
  let v419 : BitVec 1 := Scalar.cmpi .slt v415 c0_i32_349
  let v420 : BitVec 1 := Scalar.xori v418 v419
  let c0_i32_347 : BitVec 32 := 0#32
  let v417 : BitVec 1 := Scalar.cmpi .ne v416 c0_i32_347
  let v421 : BitVec 1 := Scalar.andi v420 v417
  let v422 : BitVec 32 := Scalar.addi v416 v415
  let v423 : BitVec 32 := Scalar.select v421 v422 v416
  let c256_i32_601 : BitVec 32 := 256#32
  let v760 : BitVec 32 := Scalar.muli v423 c256_i32_601
  let v761 : Index := Scalar.indexCast v760
  let c768_602 : Index := 768#32
  ![v761.toNat, 768]
def k0_off20 (d0 : Dev nD) (c1_i32_343 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v413 : BitVec 32 := Scalar.subi v2 c1_i32_343
  let c4_i32_344 : BitVec 32 := 4#32
  let c0_i32_345 : BitVec 32 := 0#32
  let v414 : BitVec 1 := Scalar.cmpi .eq c4_i32_344 c0_i32_345
  let c1_i32_346 : BitVec 32 := 1#32
  let v415 : BitVec 32 := Scalar.select v414 c1_i32_346 c4_i32_344
  let v416 : BitVec 32 := Scalar.remsi v413 v415
  let c0_i32_348 : BitVec 32 := 0#32
  let v418 : BitVec 1 := Scalar.cmpi .slt v416 c0_i32_348
  let c0_i32_349 : BitVec 32 := 0#32
  let v419 : BitVec 1 := Scalar.cmpi .slt v415 c0_i32_349
  let v420 : BitVec 1 := Scalar.xori v418 v419
  let c0_i32_347 : BitVec 32 := 0#32
  let v417 : BitVec 1 := Scalar.cmpi .ne v416 c0_i32_347
  let v421 : BitVec 1 := Scalar.andi v420 v417
  let v422 : BitVec 32 := Scalar.addi v416 v415
  let v423 : BitVec 32 := Scalar.select v421 v422 v416
  let c256_i32_612 : BitVec 32 := 256#32
  let v779 : BitVec 32 := Scalar.muli v423 c256_i32_612
  let v780 : Index := Scalar.indexCast v779
  let c896_613 : Index := 896#32
  ![v780.toNat, 896]
def k0_off21 (d0 : Dev nD) (c1_i32_343 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v413 : BitVec 32 := Scalar.subi v2 c1_i32_343
  let c4_i32_344 : BitVec 32 := 4#32
  let c0_i32_345 : BitVec 32 := 0#32
  let v414 : BitVec 1 := Scalar.cmpi .eq c4_i32_344 c0_i32_345
  let c1_i32_346 : BitVec 32 := 1#32
  let v415 : BitVec 32 := Scalar.select v414 c1_i32_346 c4_i32_344
  let v416 : BitVec 32 := Scalar.remsi v413 v415
  let c0_i32_348 : BitVec 32 := 0#32
  let v418 : BitVec 1 := Scalar.cmpi .slt v416 c0_i32_348
  let c0_i32_349 : BitVec 32 := 0#32
  let v419 : BitVec 1 := Scalar.cmpi .slt v415 c0_i32_349
  let v420 : BitVec 1 := Scalar.xori v418 v419
  let c0_i32_347 : BitVec 32 := 0#32
  let v417 : BitVec 1 := Scalar.cmpi .ne v416 c0_i32_347
  let v421 : BitVec 1 := Scalar.andi v420 v417
  let v422 : BitVec 32 := Scalar.addi v416 v415
  let v423 : BitVec 32 := Scalar.select v421 v422 v416
  let c256_i32_614 : BitVec 32 := 256#32
  let v784 : BitVec 32 := Scalar.muli v423 c256_i32_614
  let v785 : Index := Scalar.indexCast v784
  let c0_615 : Index := 0#32
  ![v785.toNat, 0]
def k0_dev5 (d0 : Dev nD) : Nat :=
  let c0_i32_627 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_626 : BitVec 32 := 1#32
  let v793 : BitVec 32 := Scalar.muli v13 c1_i32_626
  let v794 : BitVec 32 := Scalar.addi c0_i32_627 v793
  v794.toNat
def k0_dev6 (d0 : Dev nD) : Nat :=
  let c0_i32_650 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_649 : BitVec 32 := 1#32
  let v817 : BitVec 32 := Scalar.muli v13 c1_i32_649
  let v818 : BitVec 32 := Scalar.addi c0_i32_650 v817
  v818.toNat
def k0_dev7 (d0 : Dev nD) : Nat :=
  let c0_i32_791 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_790 : BitVec 32 := 1#32
  let v1025 : BitVec 32 := Scalar.muli v13 c1_i32_790
  let v1026 : BitVec 32 := Scalar.addi c0_i32_791 v1025
  v1026.toNat
def k0_dev8 (d0 : Dev nD) : Nat :=
  let c0_i32_947 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_946 : BitVec 32 := 1#32
  let v1247 : BitVec 32 := Scalar.muli v13 c1_i32_946
  let v1248 : BitVec 32 := Scalar.addi c0_i32_947 v1247
  v1248.toNat
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_952 : BitVec 32 := 256#32
  let v1257 : BitVec 32 := Scalar.muli v2 c256_i32_952
  let v1258 : Index := Scalar.indexCast v1257
  let c0_953 : Index := 0#32
  ![v1258.toNat, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S_ : Shape := ⟨0, ![]⟩
abbrev S1x32x1024x1 : Shape := ⟨4, ![1, 32, 1024, 1]⟩
abbrev S1x32x1024x1024 : Shape := ⟨4, ![1, 32, 1024, 1024]⟩
abbrev S1x32x1024 : Shape := ⟨3, ![1, 32, 1024]⟩
abbrev S1x1024x32x1 : Shape := ⟨4, ![1, 1024, 32, 1]⟩
abbrev S1x32x128x1024 : Shape := ⟨4, ![1, 32, 128, 1024]⟩

abbrev nBuf : Space → Nat
  | .hbm => 122
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S_, .f32⟩
  | .hbm, ⟨8, _⟩ => ⟨S1x1024x32x128, .f32⟩
  | .hbm, ⟨9, _⟩ => ⟨S_, .f32⟩
  | .hbm, ⟨10, _⟩ => ⟨S1x32x1024x1, .f32⟩
  | .hbm, ⟨11, _⟩ => ⟨S_, .f32⟩
  | .hbm, ⟨12, _⟩ => ⟨S1x32x1024x1, .f32⟩
  | .hbm, ⟨13, _⟩ => ⟨S1x1024x32x128, .f32⟩
  | .hbm, ⟨14, _⟩ => ⟨S1x1024x32x128, .f32⟩
  | .hbm, ⟨15, _⟩ => ⟨S1x32x1024x1024, .f32⟩
  | .hbm, ⟨16, _⟩ => ⟨S_, .f32⟩
  | .hbm, ⟨17, _⟩ => ⟨S1x32x1024x1024, .f32⟩
  | .hbm, ⟨18, _⟩ => ⟨S1x32x1024x1024, .f32⟩
  | .hbm, ⟨19, _⟩ => ⟨S_, .f32⟩
  | .hbm, ⟨20, _⟩ => ⟨S1x32x1024, .f32⟩
  | .hbm, ⟨21, _⟩ => ⟨S1x32x1024x1, .f32⟩
  | .hbm, ⟨22, _⟩ => ⟨S1x32x1024x1, .f32⟩
  | .hbm, ⟨23, _⟩ => ⟨S1x32x1024x1, .f32⟩
  | .hbm, ⟨24, _⟩ => ⟨S1x32x1024x1, .f32⟩
  | .hbm, ⟨25, _⟩ => ⟨S1x32x1024x1024, .f32⟩
  | .hbm, ⟨26, _⟩ => ⟨S1x32x1024x1024, .f32⟩
  | .hbm, ⟨27, _⟩ => ⟨S1x32x1024x1024, .f32⟩
  | .hbm, ⟨28, _⟩ => ⟨S1x32x1024x1, .f32⟩
  | .hbm, ⟨29, _⟩ => ⟨S_, .f32⟩
  | .hbm, ⟨30, _⟩ => ⟨S1x32x1024, .f32⟩
  | .hbm, ⟨31, _⟩ => ⟨S1x32x1024x1, .f32⟩
  | .hbm, ⟨32, _⟩ => ⟨S1x32x1024x1, .f32⟩
  | .hbm, ⟨33, _⟩ => ⟨S1x1024x32x1, .f32⟩
  | .hbm, ⟨34, _⟩ => ⟨S1x1024x32x128, .f32⟩
  | .hbm, ⟨35, _⟩ => ⟨S1x1024x32x128, .f32⟩
  | .hbm, ⟨36, _⟩ => ⟨S1x32x128x1024, .f32⟩
  | .hbm, ⟨37, _⟩ => ⟨S1x1024x32x128, .f32⟩
  | .hbm, ⟨38, _⟩ => ⟨S1x1024x32x128, .f32⟩
  | .hbm, ⟨39, _⟩ => ⟨S1x1024x32x128, .f32⟩
  | .hbm, ⟨40, _⟩ => ⟨S1x1024x32x128, .f32⟩
  | .hbm, ⟨41, _⟩ => ⟨S1x32x1024x1024, .f32⟩
  | .hbm, ⟨42, _⟩ => ⟨S_, .f32⟩
  | .hbm, ⟨43, _⟩ => ⟨S1x32x1024x1024, .f32⟩
  | .hbm, ⟨44, _⟩ => ⟨S1x32x1024x1024, .f32⟩
  | .hbm, ⟨45, _⟩ => ⟨S_, .f32⟩
  | .hbm, ⟨46, _⟩ => ⟨S1x32x1024, .f32⟩
  | .hbm, ⟨47, _⟩ => ⟨S1x32x1024x1, .f32⟩
  | .hbm, ⟨48, _⟩ => ⟨S1x32x1024x1, .f32⟩
  | .hbm, ⟨49, _⟩ => ⟨S1x32x1024x1, .f32⟩
  | .hbm, ⟨50, _⟩ => ⟨S1x32x1024x1, .f32⟩
  | .hbm, ⟨51, _⟩ => ⟨S1x32x1024x1024, .f32⟩
  | .hbm, ⟨52, _⟩ => ⟨S1x32x1024x1024, .f32⟩
  | .hbm, ⟨53, _⟩ => ⟨S1x32x1024x1024, .f32⟩
  | .hbm, ⟨54, _⟩ => ⟨S1x32x1024x1, .f32⟩
  | .hbm, ⟨55, _⟩ => ⟨S_, .f32⟩
  | .hbm, ⟨56, _⟩ => ⟨S1x32x1024, .f32⟩
  | .hbm, ⟨57, _⟩ => ⟨S1x32x1024x1, .f32⟩
  | .hbm, ⟨58, _⟩ => ⟨S1x32x1024x1, .f32⟩
  | .hbm, ⟨59, _⟩ => ⟨S1x1024x32x1, .f32⟩
  | .hbm, ⟨60, _⟩ => ⟨S1x1024x32x128, .f32⟩
  | .hbm, ⟨61, _⟩ => ⟨S1x1024x32x128, .f32⟩
  | .hbm, ⟨62, _⟩ => ⟨S1x32x128x1024, .f32⟩
  | .hbm, ⟨63, _⟩ => ⟨S1x1024x32x128, .f32⟩
  | .hbm, ⟨64, _⟩ => ⟨S1x1024x32x128, .f32⟩
  | .hbm, ⟨65, _⟩ => ⟨S1x1024x32x128, .f32⟩
  | .hbm, ⟨66, _⟩ => ⟨S1x1024x32x128, .f32⟩
  | .hbm, ⟨67, _⟩ => ⟨S1x32x1024x1024, .f32⟩
  | .hbm, ⟨68, _⟩ => ⟨S_, .f32⟩
  | .hbm, ⟨69, _⟩ => ⟨S1x32x1024x1024, .f32⟩
  | .hbm, ⟨70, _⟩ => ⟨S1x32x1024x1024, .f32⟩
  | .hbm, ⟨71, _⟩ => ⟨S_, .f32⟩
  | .hbm, ⟨72, _⟩ => ⟨S1x32x1024, .f32⟩
  | .hbm, ⟨73, _⟩ => ⟨S1x32x1024x1, .f32⟩
  | .hbm, ⟨74, _⟩ => ⟨S1x32x1024x1, .f32⟩
  | .hbm, ⟨75, _⟩ => ⟨S1x32x1024x1, .f32⟩
  | .hbm, ⟨76, _⟩ => ⟨S1x32x1024x1, .f32⟩
  | .hbm, ⟨77, _⟩ => ⟨S1x32x1024x1024, .f32⟩
  | .hbm, ⟨78, _⟩ => ⟨S1x32x1024x1024, .f32⟩
  | .hbm, ⟨79, _⟩ => ⟨S1x32x1024x1024, .f32⟩
  | .hbm, ⟨80, _⟩ => ⟨S1x32x1024x1, .f32⟩
  | .hbm, ⟨81, _⟩ => ⟨S_, .f32⟩
  | .hbm, ⟨82, _⟩ => ⟨S1x32x1024, .f32⟩
  | .hbm, ⟨83, _⟩ => ⟨S1x32x1024x1, .f32⟩
  | .hbm, ⟨84, _⟩ => ⟨S1x32x1024x1, .f32⟩
  | .hbm, ⟨85, _⟩ => ⟨S1x1024x32x1, .f32⟩
  | .hbm, ⟨86, _⟩ => ⟨S1x1024x32x128, .f32⟩
  | .hbm, ⟨87, _⟩ => ⟨S1x1024x32x128, .f32⟩
  | .hbm, ⟨88, _⟩ => ⟨S1x32x128x1024, .f32⟩
  | .hbm, ⟨89, _⟩ => ⟨S1x1024x32x128, .f32⟩
  | .hbm, ⟨90, _⟩ => ⟨S1x1024x32x128, .f32⟩
  | .hbm, ⟨91, _⟩ => ⟨S1x1024x32x128, .f32⟩
  | .hbm, ⟨92, _⟩ => ⟨S1x1024x32x128, .f32⟩
  | .hbm, ⟨93, _⟩ => ⟨S1x32x1024x1024, .f32⟩
  | .hbm, ⟨94, _⟩ => ⟨S_, .f32⟩
  | .hbm, ⟨95, _⟩ => ⟨S1x32x1024x1024, .f32⟩
  | .hbm, ⟨96, _⟩ => ⟨S1x32x1024x1024, .f32⟩
  | .hbm, ⟨97, _⟩ => ⟨S_, .f32⟩
  | .hbm, ⟨98, _⟩ => ⟨S1x32x1024, .f32⟩
  | .hbm, ⟨99, _⟩ => ⟨S1x32x1024x1, .f32⟩
  | .hbm, ⟨100, _⟩ => ⟨S1x32x1024x1, .f32⟩
  | .hbm, ⟨101, _⟩ => ⟨S1x32x1024x1, .f32⟩
  | .hbm, ⟨102, _⟩ => ⟨S1x32x1024x1, .f32⟩
  | .hbm, ⟨103, _⟩ => ⟨S1x32x1024x1024, .f32⟩
  | .hbm, ⟨104, _⟩ => ⟨S1x32x1024x1024, .f32⟩
  | .hbm, ⟨105, _⟩ => ⟨S1x32x1024x1024, .f32⟩
  | .hbm, ⟨106, _⟩ => ⟨S1x32x1024x1, .f32⟩
  | .hbm, ⟨107, _⟩ => ⟨S_, .f32⟩
  | .hbm, ⟨108, _⟩ => ⟨S1x32x1024, .f32⟩
  | .hbm, ⟨109, _⟩ => ⟨S1x32x1024x1, .f32⟩
  | .hbm, ⟨110, _⟩ => ⟨S1x32x1024x1, .f32⟩
  | .hbm, ⟨111, _⟩ => ⟨S1x1024x32x1, .f32⟩
  | .hbm, ⟨112, _⟩ => ⟨S1x1024x32x128, .f32⟩
  | .hbm, ⟨113, _⟩ => ⟨S1x1024x32x128, .f32⟩
  | .hbm, ⟨114, _⟩ => ⟨S1x32x128x1024, .f32⟩
  | .hbm, ⟨115, _⟩ => ⟨S1x1024x32x128, .f32⟩
  | .hbm, ⟨116, _⟩ => ⟨S1x1024x32x128, .f32⟩
  | .hbm, ⟨117, _⟩ => ⟨S1x1024x32x1, .f32⟩
  | .hbm, ⟨118, _⟩ => ⟨S1x1024x32x128, .f32⟩
  | .hbm, ⟨119, _⟩ => ⟨S1x1024x32x128, .f32⟩
  | .hbm, ⟨120, _⟩ => ⟨S1x1024x4096, .f32⟩
  | .hbm, ⟨121, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Proof.Ring.lean ====
/-
# The ring of four devices and the protocol of the kernel

Each device gathers the four row blocks of `x` around the ring (three hops), computes its heads' attention on
every row block, and sends partial sums of the output around the ring (three more hops), after a handshake with
both neighbours on the runtime's barrier semaphore. This module states the ring, the thirteen cells of each
device that take part, what every cell's one round hands over, what each device owes at launch and the levels
that order the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging library's component, the ring's rounds, the counters of local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## The ring -/

set_option backward.proofsInPublic true in
/-- The next device around the ring, -/
def nxt (c : Dev nD) : Dev nD := ⟨(c.val + 1) % 4, Nat.mod_lt _ (by decide)⟩
set_option backward.proofsInPublic true in
/-- and the device `k` places back. -/
def back (k : Fin 4) (c : Dev nD) : Dev nD := ⟨(c.val + 4 - k.val) % 4, Nat.mod_lt _ (by decide)⟩
abbrev prv (c : Dev nD) : Dev nD := back 1 c

theorem prv_nxt (c : Dev nD) : prv (nxt c) = c := by revert c; decide
theorem nxt_prv (c : Dev nD) : nxt (prv c) = c := by revert c; decide
theorem back_zero (c : Dev nD) : back 0 c = c := by revert c; decide
theorem back_succ_nxt (k : Fin 3) (c : Dev nD) : back k.succ (nxt c) = back k.castSucc c := by revert k c; decide

def ring : Dev nD ≃ Dev nD := ⟨nxt, prv, prv_nxt, nxt_prv⟩

/-- The device chains of the kernel: the first signal names the device before, the second and all six transfers the
    device after. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = nxt c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = nxt c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = nxt c := by revert c; decide +kernel

/-- The offset chains of the row blocks in closed form. -/
theorem off3_eq (c : Dev nD) (k : Fin 3) : k0_off3 c (BitVec.ofNat 32 k.val) = ![(back k.castSucc c).val, 0, 0] := by
  revert c k; decide +kernel
theorem off8_eq (c : Dev nD) (k : Fin 3) : k0_off8 c (BitVec.ofNat 32 (1 + k.val)) = ![(back k.succ c).val, 0, 0] := by
  revert c k; decide +kernel
theorem off21_eq (c : Dev nD) (k : Fin 3) : k0_off21 c (BitVec.ofNat 32 (1 + k.val)) = ![256 * (back k.succ c).val, 0] := by
  revert c k; decide +kernel

/-! ## The memrefs -/

abbrev xfM : Memref sig .tc .vmem S4x256x1024 .bf16 := Memref.whole cc0_scratch0
abbrev sndM : Memref sig .tc .vmem S3x256x1024 .bf16 := Memref.whole cc0_scratch8
abbrev rcvM : Memref sig .tc .vmem S3x256x1024 .bf16 := Memref.whole cc0_scratch9

theorem inb_slot4 (j : Fin 4) : ∀ a, (![j.val, 0, 0] : Fin 3 → Nat) a + S1x256x1024.size a ≤ S4x256x1024.size a := by
  revert j; decide
theorem inb_slot3 (j : Fin 3) : ∀ a, (![j.val, 0, 0] : Fin 3 → Nat) a + S1x256x1024.size a ≤ S3x256x1024.size a := by
  revert j; decide

/-- The rectangle of slot `j` of the gathered rows, and of slot `s` of a scatter buffer. -/
abbrev slot4 (j : Fin 4) : Rect S4x256x1024 := Rect.unit (s := S4x256x1024) ![j.val, 0, 0] S1x256x1024.size (inb_slot4 j)
abbrev slot3 (s : Fin 3) : Rect S3x256x1024 := Rect.unit (s := S3x256x1024) ![s.val, 0, 0] S1x256x1024.size (inb_slot3 s)

/-- The slots as the transfers name them. -/
abbrev xslM (j : Fin 4) : Memref sig .tc .vmem S256x1024 .bf16 :=
  (xfM.slice (slot4 j) (fun _ => rfl)).squeeze S256x1024 squeezes_S1x256x1024_S256x1024
abbrev sndslM (s : Fin 3) : Memref sig .tc .vmem S256x1024 .bf16 :=
  (sndM.slice (slot3 s) (fun _ => rfl)).squeeze S256x1024 squeezes_S1x256x1024_S256x1024
abbrev rcvslM (s : Fin 3) : Memref sig .tc .vmem S256x1024 .bf16 :=
  (rcvM.slice (slot3 s) (fun _ => rfl)).squeeze S256x1024 squeezes_S1x256x1024_S256x1024

/-! ## The cells -/

/-- The runtime's barrier semaphore, and the twelve transfer semaphores: for `i < 3` the send semaphore of gather hop
    `i`, then the receive semaphores of the gather, then the send and the receive semaphores of the scatter. -/
abbrev barS : Sem sig := (SemArray.scalar (sig.barrier 0 rfl) : Sems sig S_).sem

def xsem (i : Fin 12) : DmaSem sig := ⟨if i.val < 6 then 4 + i.val else 20 + i.val, by
  show _ < 32
  split <;> omega⟩

/-- The semaphores of the protocol as this proof indexes them: the barrier, then the twelve. -/
abbrev csem : Fin 13 → SemLoc sig := Fin.cases (.reg barS) (fun i => .dma (xsem i))
abbrev kcell (ck : Dev nD × Fin 13) : GSem nD τ sig := ((ck.1 : Thread nD τ), csem ck.2)
abbrev barCell (c : Dev nD) : GSem nD τ sig := ((c : Thread nD τ), .reg barS)
abbrev xCell (c : Dev nD) (i : Fin 12) : GSem nD τ sig := ((c : Thread nD τ), .dma (xsem i))

theorem xsem_injective : Function.Injective xsem := by decide

end Cert.RingProof

end
-- ==== Proof.Contents.lean ====
/-
# What the kernel's buffers hold

The values of the run, over any float values: the casts of the inputs, the projected queries, every head's output
on every row block, the partial sums that travel around the ring, and the result. With each value comes the fact
that a buffer holds it "so far" — the first heads, the first tiles — and the two lemmas that move it: a store
extends it, a load reads it.
-/
module

public import proofs.«01_k».proof.Proof.Ring
public import Idealize.ShloMosaic.Lib.Pointwise.Index
public import Idealize.ShloMosaic.Lib.Writes

@[expose] public section

set_option maxRecDepth 16384

noncomputable section

namespace Cert.RingProof

open Cert.KernelIdeal Cert.KernelIdeal.Gen
open Idealize.ShloMosaic
open Idealize.ShloMosaic.TcCoe

variable {F : FTy → Type} [FloatOps F]

/-! ## The inputs and the values made of them -/

/-- The blocks the devices hold at launch. -/
structure Ins (F : FTy → Type) where
  x : Dev nD → S1x256x1024.Idx → Elt F .f32
  wq : Dev nD → S1024x1024.Idx → Elt F .f32
  wo : Dev nD → S1024x1024.Idx → Elt F .f32
  k : Dev nD → S1x4096x32x128.Idx → Elt F .f32
  v : Dev nD → S1x4096x32x128.Idx → Elt F .f32

variable (I : Ins F)

/-- The head of the keys (of the values) that device `c` handles as its `h`-th. -/
def headOf (f : S1x4096x32x128.Idx → Elt F .f32) (c : Dev nD) (h : Fin 8) : S1x4096x128.Idx → Elt F .f32 :=
  fun x => f (ix4 0 (x 1) ⟨8 * c.val + h.val, by have := c.isLt; have := h.isLt; change c.val < 4 at *; omega⟩ (x 2))

def KB (c : Dev nD) (h : Fin 8) : S1x4096x128.Idx → Elt F .bf16 := k0_pay5 (headOf (I.k c) c h)
def VB (c : Dev nD) (h : Fin 8) : S1x4096x128.Idx → Elt F .bf16 := k0_pay5 (headOf (I.v c) c h)
def WQ (c : Dev nD) : S1024x1024.Idx → Elt F .bf16 := k0_pay1 (I.wq c)
def WO (c : Dev nD) : S1024x1024.Idx → Elt F .bf16 := k0_pay2 (I.wo c)

/-- The rows of device `j`, as they travel. -/
def XB (j : Dev nD) : S1x256x1024.Idx → Elt F .bf16 := k0_pay3 (I.x j)
/-- All rows, gathered: the same contents on every device. -/
def XF : S4x256x1024.Idx → Elt F .bf16 := fun y => XB I (y 0) (ix3 0 (y 1) (y 2))

/-- The scaled queries of device `c` for the rows of device `j`. -/
def QB (c j : Dev nD) : FVec F S256x1024 .bf16 := k0_pay4 (XB I j) (WQ I c)

theorem slices_head (h : Fin 8) : S256x1024.Slices ![0, 128 * h.val] S256x128 := by revert h; decide

/-- One head on one row block: the exponentials of the scores, and their weighted mean of the values. -/
def headP (h : Fin 8) (qb : FVec F S256x1024 .bf16) (k : Vec F S1x4096x128 .bf16) : FVec F S256x4096 .f32 :=
  exp (matmul dot_S256x128_S4096x128_S256x4096_1_1_0_0_n_n none
    (extractStridedSlice S256x128 ![0, 128 * h.val] qb (slices_head h))
    (shapeCast S4096x128 k shapeCasts_S1x4096x128_S4096x128) (constant S256x4096 .f32 0x00000000#32))

def headOut (h : Fin 8) (qb : FVec F S256x1024 .bf16) (k v : Vec F S1x4096x128 .bf16) : FVec F S256x128 .bf16 :=
  shapeCast S256x128 (truncf .bf16 (divf
      (matmul dot_S256x4096_S4096x128_S256x128_1_0_0_1_n_n none (truncf .bf16 (headP h qb k) bitsLt_bf16_f32)
        (shapeCast S4096x128 v shapeCasts_S1x4096x128_S4096x128) (constant S256x128 .f32 0x00000000#32))
      (broadcastTo S256x128 (shapeCast S256x1
        (multiReduction .add [1] S256 (headP h qb k) 0x00000000#32 reduces_S256x4096_S256 (.inl rfl) rfl)
        shapeCasts_S256_S256x1) broadcasts_S256x1_S256x128)) bitsLt_bf16_f32) shapeCasts_S256x128_S256x128

def HO (c j : Dev nD) (h : Fin 8) : S256x128.Idx → Elt F .bf16 := headOut h (QB I c j) (KB I c h) (VB I c h)

/-- The attention output of device `c`: row block `j`, head `h` in its tile. -/
def AO (c : Dev nD) : S1024x1024.Idx → Elt F .bf16 := fun y =>
  HO I c ⟨(y 0).val / 256, by have := (y 0).isLt; change (y 0).val < 1024 at this; show _ < 4; omega⟩
    ⟨(y 1).val / 128, by have := (y 1).isLt; change (y 1).val < 1024 at this; omega⟩
    (ix2 ⟨(y 0).val % 256, Nat.mod_lt _ (by decide)⟩ ⟨(y 1).val % 128, Nat.mod_lt _ (by decide)⟩)

/-- The rows of block `j` of it. -/
def AR (c j : Dev nD) : S256x1024.Idx → Elt F .bf16 := fun x =>
  AO I c (ix2 ⟨256 * j.val + (x 0).val, by
    have := (x 0).isLt; change (x 0).val < 256 at this; have := j.isLt; change j.val < 4 at this; omega⟩ (x 1))

/-- The partial sums on their way: what device `c` sends at hop `s`. -/
def S0 (c : Dev nD) : S1x256x1024.Idx → Elt F .bf16 := k0_pay44 (AR I c (back 1 c)) (WO I c)
def S1 (c : Dev nD) : S1x256x1024.Idx → Elt F .bf16 := k0_pay77 (AR I c (back 2 c)) (WO I c) (S0 I (prv c))
def S2 (c : Dev nD) : S1x256x1024.Idx → Elt F .bf16 := k0_pay77 (AR I c (back 3 c)) (WO I c) (S1 I (prv c))
def SS (s : Fin 3) (c : Dev nD) : S1x256x1024.Idx → Elt F .bf16 := ![S0 I c, S1 I c, S2 I c] s
/-- All three as one buffer's contents. -/
def SND (c : Dev nD) : S3x256x1024.Idx → Elt F .bf16 := fun y => SS I (y 0) c (ix3 0 (y 1) (y 2))

/-- The result block of device `c`. -/
def OUT (c : Dev nD) : S1x256x1024.Idx → Elt F .f32 := k0_pay78 (AR I c c) (WO I c) (S2 I (prv c))

/-! ## A store through a rectangle, at an index -/

theorem write_at (b : Ref sig .tc) (R : Rect b.ty.shape) (f : b.ty.Contents (Elt F)) (w : R.shape.Idx → Elt F b.ty.elt)
    (x : R.shape.Idx) : ((Memref.whole b).view.slice R).write (Elt F) f w Finset.univ (R.emb x) = w x :=
  View.write_emb_of_mem (v := (Memref.whole b).view.slice R) f w (Finset.mem_univ x)

theorem write_off (b : Ref sig .tc) (R : Rect b.ty.shape) (f : b.ty.Contents (Elt F)) (w : R.shape.Idx → Elt F b.ty.elt)
    (y : b.ty.shape.Idx) (h : ∀ x, R.emb x ≠ y) :
    ((Memref.whole b).view.slice R).write (Elt F) f w Finset.univ y = f y := by
  refine View.write_of_not_mem (v := (Memref.whole b).view.slice R) f w _ ?_
  intro hm
  obtain ⟨x, -, hx⟩ := Finset.mem_map.mp hm
  exact h x hx

/-! ## The landed heads -/

/-- The first `n` slots of `f` are `B 0`, …, `B (n - 1)`. -/
def Heads (B : Fin 8 → S1x4096x128.Idx → Elt F .bf16) (n : ℕ) (f : S8x4096x128.Idx → Elt F .bf16) : Prop :=
  ∀ y : S8x4096x128.Idx, (y 0).val < n → f y = B (y 0) (ix3 0 (y 1) (y 2))

theorem heads_zero (B : Fin 8 → S1x4096x128.Idx → Elt F .bf16) (f : S8x4096x128.Idx → Elt F .bf16) : Heads B 0 f :=
  fun _ h => absurd h (Nat.not_lt_zero _)

theorem emb_slab {off : Fin 3 → ℕ} {h : ℕ} (ho : off = ![h, 0, 0]) (inb : ∀ a, off a + S1x4096x128.size a ≤ S8x4096x128.size a)
    (x : S1x4096x128.Idx) : ((Rect.unit (s := S8x4096x128) off S1x4096x128.size inb).toLoadRect.idx x 0).val = h
      ∧ ((Rect.unit (s := S8x4096x128) off S1x4096x128.size inb).toLoadRect.idx x 1).val = (x 1).val
      ∧ ((Rect.unit (s := S8x4096x128) off S1x4096x128.size inb).toLoadRect.idx x 2).val = (x 2).val := by
  subst ho
  have h0 : (x 0).val < 1 := (x 0).isLt
  simp [LoadRect.idx_apply, Rect.unit]
  omega

theorem heads_get {B : Fin 8 → S1x4096x128.Idx → Elt F .bf16} {n : ℕ} {f : S8x4096x128.Idx → Elt F .bf16} (hf : Heads B n f)
    (h : Fin 8) (hn : h.val < n) {off : Fin 3 → ℕ} (ho : off = ![h.val, 0, 0])
    (inb : ∀ a, off a + S1x4096x128.size a ≤ S8x4096x128.size a) :
    (fun x => f ((Rect.unit (s := S8x4096x128) off S1x4096x128.size inb).toLoadRect.idx x)) = B h := by
  funext x
  obtain ⟨e0, e1, e2⟩ := emb_slab ho inb x
  have e : (Rect.unit (s := S8x4096x128) off S1x4096x128.size inb).toLoadRect.idx x 0 = h := Fin.ext e0
  refine (hf _ (by rw [e]; exact hn)).trans ?_
  rw [e]
  congr 1
  funext a
  have h0 : (x 0).val < 1 := (x 0).isLt
  fin_cases a
  · exact Fin.ext (by show 0 = (x 0).val; omega)
  · exact Fin.ext e1
  · exact Fin.ext e2

theorem heads_put {B : Fin 8 → S1x4096x128.Idx → Elt F .bf16} {f g : S8x4096x128.Idx → Elt F .bf16} (h : Fin 8)
    (hf : Heads B h.val f) {off : Fin 3 → ℕ} (ho : off = ![h.val, 0, 0])
    (inb : ∀ a, off a + S1x4096x128.size a ≤ S8x4096x128.size a)
    (hit : ∀ x, g ((Rect.unit (s := S8x4096x128) off S1x4096x128.size inb).emb x) = B h x)
    (miss : ∀ y, (∀ x, (Rect.unit (s := S8x4096x128) off S1x4096x128.size inb).emb x ≠ y) → g y = f y) :
    Heads B (h.val + 1) g := by
  intro y hy
  by_cases hc : (y 0).val = h.val
  · have ex : (Rect.unit (s := S8x4096x128) off S1x4096x128.size inb).emb (ix3 0 (y 1) (y 2)) = y := by
      obtain ⟨e0, e1, e2⟩ := emb_slab ho inb (ix3 0 (y 1) (y 2))
      funext a
      fin_cases a
      · exact Fin.ext (e0.trans hc.symm)
      · exact Fin.ext e1
      · exact Fin.ext e2
    have e : y 0 = h := Fin.ext hc
    have := hit (ix3 0 (y 1) (y 2))
    rw [ex] at this
    rw [this, e]
  · rw [miss y fun x hx => hc ?_]
    · exact hf y (by omega)
    · rw [← hx]; exact (emb_slab ho inb x).1

theorem kbf_get {B : Fin 8 → S1x4096x128.Idx → Elt F .bf16} {n : ℕ} {f : cc0_scratch4.ty.Contents (Elt F)} (hf : Heads B n f)
    (h : Fin 8) (hn : h.val < n) {off : Fin 3 → ℕ} (ho : off = ![h.val, 0, 0])
    (inb : ∀ a, off a + S1x4096x128.size a ≤ S8x4096x128.size a) :
    (Memref.whole cc0_scratch4).view.readAt (Elt F) (Rect.unit (s := S8x4096x128) off S1x4096x128.size inb).toLoadRect f = B h :=
  heads_get hf h hn ho inb
theorem vbf_get {B : Fin 8 → S1x4096x128.Idx → Elt F .bf16} {n : ℕ} {f : cc0_scratch5.ty.Contents (Elt F)} (hf : Heads B n f)
    (h : Fin 8) (hn : h.val < n) {off : Fin 3 → ℕ} (ho : off = ![h.val, 0, 0])
    (inb : ∀ a, off a + S1x4096x128.size a ≤ S8x4096x128.size a) :
    (Memref.whole cc0_scratch5).view.readAt (Elt F) (Rect.unit (s := S8x4096x128) off S1x4096x128.size inb).toLoadRect f = B h :=
  heads_get hf h hn ho inb

theorem kbf_put {B : Fin 8 → S1x4096x128.Idx → Elt F .bf16} {f : cc0_scratch4.ty.Contents (Elt F)} (h : Fin 8)
    (hf : Heads B h.val f) {off : Fin 3 → ℕ} (ho : off = ![h.val, 0, 0])
    (inb : ∀ a, off a + S1x4096x128.size a ≤ S8x4096x128.size a) {w : S1x4096x128.Idx → Elt F .bf16} (hw : w = B h) :
    Heads B (h.val + 1) (((Memref.whole cc0_scratch4).view.slice (Rect.unit (s := S8x4096x128) off S1x4096x128.size inb)).write
      (Elt F) f w Finset.univ) := by
  subst hw
  have hit := write_at (F := F) cc0_scratch4 (Rect.unit (s := S8x4096x128) off S1x4096x128.size inb) f (B h)
  have miss := write_off (F := F) cc0_scratch4 (Rect.unit (s := S8x4096x128) off S1x4096x128.size inb) f (B h)
  generalize ((Memref.whole cc0_scratch4).view.slice (Rect.unit (s := S8x4096x128) off S1x4096x128.size inb)).write
      (Elt F) f (B h) Finset.univ = g at *
  exact heads_put h hf ho inb hit miss
theorem vbf_put {B : Fin 8 → S1x4096x128.Idx → Elt F .bf16} {f : cc0_scratch5.ty.Contents (Elt F)} (h : Fin 8)
    (hf : Heads B h.val f) {off : Fin 3 → ℕ} (ho : off = ![h.val, 0, 0])
    (inb : ∀ a, off a + S1x4096x128.size a ≤ S8x4096x128.size a) {w : S1x4096x128.Idx → Elt F .bf16} (hw : w = B h) :
    Heads B (h.val + 1) (((Memref.whole cc0_scratch5).view.slice (Rect.unit (s := S8x4096x128) off S1x4096x128.size inb)).write
      (Elt F) f w Finset.univ) := by
  subst hw
  have hit := write_at (F := F) cc0_scratch5 (Rect.unit (s := S8x4096x128) off S1x4096x128.size inb) f (B h)
  have miss := write_off (F := F) cc0_scratch5 (Rect.unit (s := S8x4096x128) off S1x4096x128.size inb) f (B h)
  generalize ((Memref.whole cc0_scratch5).view.slice (Rect.unit (s := S8x4096x128) off S1x4096x128.size inb)).write
      (Elt F) f (B h) Finset.univ = g at *
  exact heads_put h hf ho inb hit miss

/-! ## The tiles of the attention output -/

/-- On the row block `r` places back, the first `n r` heads of `f` are the attention output's. -/
def Tiles (c : Dev nD) (n : Fin 4 → ℕ) (f : S1024x1024.Idx → Elt F .bf16) : Prop :=
  ∀ (r : Fin 4) (y : S1024x1024.Idx), (y 0).val / 256 = (back r c).val → (y 1).val / 128 < n r → f y = AO I c y

theorem tiles_zero (c : Dev nD) (f : S1024x1024.Idx → Elt F .bf16) : Tiles I c ![0, 0, 0, 0] f := by
  intro r y _ h
  fin_cases r <;> exact absurd h (Nat.not_lt_zero _)

theorem back_inj (c : Dev nD) (r r' : Fin 4) (h : (back r c).val = (back r' c).val) : r = r' := by
  revert c r r'; decide

theorem tiles_put {c : Dev nD} {n : Fin 4 → ℕ} {f : cc0_scratch1.ty.Contents (Elt F)} (hf : Tiles I c n f) (r : Fin 4) (h : Fin 8)
    (hn : n r = h.val) {off : Fin 2 → ℕ} (ho : off = ![256 * (back r c).val, 128 * h.val])
    (inb : ∀ a, off a + S256x128.size a ≤ S1024x1024.size a) {w : S256x128.Idx → Elt F .bf16}
    (hw : w = HO I c (back r c) h) (n' : Fin 4 → ℕ) (hn' : n' = Function.update n r (h.val + 1)) :
    Tiles I c n' (((Memref.whole cc0_scratch1).view.slice (Rect.unit (s := S1024x1024) off S256x128.size inb)).write (Elt F) f w
      Finset.univ) := by
  subst ho hw hn'
  intro r' y hy hh
  by_cases hc : (y 0).val / 256 = (back r c).val ∧ (y 1).val / 128 = h.val
  · obtain ⟨hc0, hc1⟩ := hc
    let x : S256x128.Idx := ix2 ⟨(y 0).val % 256, Nat.mod_lt _ (by decide)⟩ ⟨(y 1).val % 128, Nat.mod_lt _ (by decide)⟩
    have ex : (Rect.unit (s := S1024x1024) ![256 * (back r c).val, 128 * h.val] S256x128.size inb).emb x = y := by
      funext a
      fin_cases a
      · refine Fin.ext ?_
        show 256 * (back r c).val + 1 * ((y 0).val % 256) = (y 0).val
        omega
      · refine Fin.ext ?_
        show 128 * h.val + 1 * ((y 1).val % 128) = (y 1).val
        omega
    have := write_at (F := F) cc0_scratch1 (Rect.unit (s := S1024x1024) ![256 * (back r c).val, 128 * h.val] S256x128.size inb) f
      (HO I c (back r c) h) x
    rw [ex] at this
    rw [this]
    unfold AO
    congr 1
    · congr 1
      exact Fin.ext hc0.symm
    · exact Fin.ext hc1.symm
  · rw [write_off cc0_scratch1 _ f _ y ?_]
    · by_cases hr : r' = r
      · subst hr
        rw [Function.update_self] at hh
        exact hf r' y hy (by rw [hn]; have : ¬ (y 1).val / 128 = h.val := fun e => hc ⟨hy, e⟩; omega)
      · rw [Function.update_of_ne hr] at hh
        exact hf r' y hy hh
    · intro x hx
      refine hc ?_
      have h0 : (x 0).val < 256 := (x 0).isLt
      have h1 : (x 1).val < 128 := (x 1).isLt
      rw [← hx]
      constructor
      · show (256 * (back r c).val + 1 * (x 0).val) / 256 = _
        omega
      · show (128 * h.val + 1 * (x 1).val) / 128 = _
        omega

theorem rows_get {c : Dev nD} {n : Fin 4 → ℕ} {f : cc0_scratch1.ty.Contents (Elt F)} (hf : Tiles I c n f) (r : Fin 4)
    (hn : n r = 8) {off : Fin 2 → ℕ} (ho : off = ![256 * (back r c).val, 0])
    (inb : ∀ a, off a + S256x1024.size a ≤ S1024x1024.size a) :
    (Memref.whole cc0_scratch1).view.readAt (Elt F) (Rect.unit (s := S1024x1024) off S256x1024.size inb).toLoadRect f
      = AR I c (back r c) := by
  subst ho
  funext x
  have h0 : (x 0).val < 256 := (x 0).isLt
  have h1 : (x 1).val < 1024 := (x 1).isLt
  show f ((Rect.unit (s := S1024x1024) ![256 * (back r c).val, 0] S256x1024.size inb).toLoadRect.idx x) = _
  refine (hf r _ ?_ ?_).trans ?_
  · show (256 * (back r c).val + 1 * (x 0).val) / 256 = _
    omega
  · show (0 + 1 * (x 1).val) / 128 < _
    omega
  · unfold AR
    congr 1
    funext a
    fin_cases a
    · exact Fin.ext (by show 256 * (back r c).val + 1 * (x 0).val = 256 * (back r c).val + (x 0).val; omega)
    · exact Fin.ext (by show 0 + 1 * (x 1).val = (x 1).val; omega)

/-- The offset chains of the tiles and row blocks in closed form. -/
theorem off2_eq (c : Dev nD) : k0_off2 c = ![(back 0 c).val, 0, 0] := by revert c; decide +kernel
theorem off22_eq (c : Dev nD) : k0_off22 c = ![256 * (back 0 c).val, 0] := by revert c; decide +kernel
theorem off4_eq (c : Dev nD) : k0_off4 c = ![256 * (back 0 c).val, 128 * (0 : Fin 8).val] := by revert c; decide +kernel
theorem off5_eq (c : Dev nD) : k0_off5 c = ![256 * (back 0 c).val, 128 * (1 : Fin 8).val] := by revert c; decide +kernel
theorem off6_eq (c : Dev nD) : k0_off6 c = ![256 * (back 0 c).val, 128 * (2 : Fin 8).val] := by revert c; decide +kernel
theorem off7_eq (c : Dev nD) : k0_off7 c = ![256 * (back 0 c).val, 128 * (3 : Fin 8).val] := by revert c; decide +kernel
theorem off13_eq (c : Dev nD) : k0_off13 c = ![256 * (back 0 c).val, 128 * (4 : Fin 8).val] := by revert c; decide +kernel
theorem off14_eq (c : Dev nD) : k0_off14 c = ![256 * (back 0 c).val, 128 * (5 : Fin 8).val] := by revert c; decide +kernel
theorem off15_eq (c : Dev nD) : k0_off15 c = ![256 * (back 0 c).val, 128 * (6 : Fin 8).val] := by revert c; decide +kernel
theorem off16_eq (c : Dev nD) : k0_off16 c = ![256 * (back 0 c).val, 128 * (7 : Fin 8).val] := by revert c; decide +kernel
theorem off9_eq (c : Dev nD) (k : Fin 3) :
    k0_off9 c (BitVec.ofNat 32 (1 + k.val)) = ![256 * (back k.succ c).val, 128 * (0 : Fin 8).val] := by
  revert c k; decide +kernel
theorem off10_eq (c : Dev nD) (k : Fin 3) :
    k0_off10 c (BitVec.ofNat 32 (1 + k.val)) = ![256 * (back k.succ c).val, 128 * (1 : Fin 8).val] := by
  revert c k; decide +kernel
theorem off11_eq (c : Dev nD) (k : Fin 3) :
    k0_off11 c (BitVec.ofNat 32 (1 + k.val)) = ![256 * (back k.succ c).val, 128 * (2 : Fin 8).val] := by
  revert c k; decide +kernel
theorem off12_eq (c : Dev nD) (k : Fin 3) :
    k0_off12 c (BitVec.ofNat 32 (1 + k.val)) = ![256 * (back k.succ c).val, 128 * (3 : Fin 8).val] := by
  revert c k; decide +kernel
theorem off17_eq (c : Dev nD) (k : Fin 3) :
    k0_off17 c (BitVec.ofNat 32 (1 + k.val)) = ![256 * (back k.succ c).val, 128 * (4 : Fin 8).val] := by
  revert c k; decide +kernel
theorem off18_eq (c : Dev nD) (k : Fin 3) :
    k0_off18 c (BitVec.ofNat 32 (1 + k.val)) = ![256 * (back k.succ c).val, 128 * (5 : Fin 8).val] := by
  revert c k; decide +kernel
theorem off19_eq (c : Dev nD) (k : Fin 3) :
    k0_off19 c (BitVec.ofNat 32 (1 + k.val)) = ![256 * (back k.succ c).val, 128 * (6 : Fin 8).val] := by
  revert c k; decide +kernel
theorem off20_eq (c : Dev nD) (k : Fin 3) :
    k0_off20 c (BitVec.ofNat 32 (1 + k.val)) = ![256 * (back k.succ c).val, 128 * (7 : Fin 8).val] := by
  revert c k; decide +kernel

/-- The offset of a head's copy. -/
theorem off1_eq (c : Dev nD) (h : Fin 8) : k0_off1 c (BitVec.ofNat 32 h.val) = ![0, 0, 8 * c.val + h.val, 0] := by
  revert c h; decide +kernel

end Cert.RingProof

end
-- ==== Proof.Protocol.lean ====
/-
# The protocol: what every cell's round hands over, what a device owes, and the steps of the protocol

One round per cell. A device's barrier cell has one duty of each neighbour; the neighbour after hands its landing
buffers over with it. A transfer's send cell gives the source back, its receive cell the landed contents. Each
device owes its neighbours' cells their units in program order, and the levels of the cells order the waits.
-/
module

public import proofs.«01_k».proof.Proof.Contents

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (I : Ins F)

/-- One slot's credit. -/
abbrev N : ℕ := (rcvslM 0).view.dmaCredit
theorem N_pos : 0 < N := View.dmaCredit_pos _ (by decide)

/-! ## Pieces of the buffers -/

/-- Slot `j` of device `c`'s gathered rows at the share `q`, holding the rows of device `j`; -/
def xsl (c : Dev nD) (j : Fin 4) (q : PosShare TreeShare) : sProp 𝕄 :=
  (xslM j).view.loc (c : Thread nD τ) ↦[(xslM j).view.set]{q} (XF I : Buf (Elt F) ((xslM j).view.loc (c : Thread nD τ)))
/-- slot `s` of its send buffer, holding what it sends at hop `s`; -/
def ssl (c : Dev nD) (s : Fin 3) : sProp 𝕄 :=
  (sndslM s).view.loc (c : Thread nD τ) ↦[(sndslM s).view.set]{fullShare} (SND I c : Buf (Elt F) ((sndslM s).view.loc (c : Thread nD τ)))
/-- slot `s` of its landing buffer, holding what the device before sent. -/
def rsl (c : Dev nD) (s : Fin 3) : sProp 𝕄 :=
  (rcvslM s).view.loc (c : Thread nD τ) ↦[(rcvslM s).view.set]{fullShare} (SND I (prv c) : Buf (Elt F) ((rcvslM s).view.loc (c : Thread nD τ)))
/-- The three with contents not known. -/
def xany (c : Dev nD) (j : Fin 4) : sProp 𝕄 :=
  iprop(∃ f, (xslM j).view.loc (c : Thread nD τ) ↦[(xslM j).view.set]{fullShare} f)
def sany (c : Dev nD) (s : Fin 3) : sProp 𝕄 :=
  iprop(∃ f, (sndslM s).view.loc (c : Thread nD τ) ↦[(sndslM s).view.set]{fullShare} f)
def rany (c : Dev nD) (s : Fin 3) : sProp 𝕄 :=
  iprop(∃ f, (rcvslM s).view.loc (c : Thread nD τ) ↦[(rcvslM s).view.set]{fullShare} f)

instance xsl_storable (c j q) : BI.Storable (upEmb : UEmb _ 𝕄) (xsl I c j q) := by unfold xsl; infer_instance
instance ssl_storable (c s) : BI.Storable (upEmb : UEmb _ 𝕄) (ssl I c s) := by unfold ssl; infer_instance
instance rsl_storable (c s) : BI.Storable (upEmb : UEmb _ 𝕄) (rsl I c s) := by unfold rsl; infer_instance
instance xany_storable (c j) : BI.Storable (upEmb : UEmb _ 𝕄) (xany (F := F) c j) := by unfold xany; infer_instance
instance rany_storable (c s) : BI.Storable (upEmb : UEmb _ 𝕄) (rany (F := F) c s) := by unfold rany; infer_instance

/-! ## The schedule -/

abbrev agS (k : Fin 3) : Fin 12 := ⟨k.val, by omega⟩
abbrev agR (k : Fin 3) : Fin 12 := ⟨3 + k.val, by omega⟩
abbrev rsS (k : Fin 3) : Fin 12 := ⟨6 + k.val, by omega⟩
abbrev rsR (k : Fin 3) : Fin 12 := ⟨9 + k.val, by omega⟩

/-- What the signal of the device after hands device `c`: the buffers `c`'s six transfers land in. -/
def barPay (c : Dev nD) : sProp 𝕄 :=
  iprop(xany (nxt c) (back 0 c) ∗ xany (nxt c) (back 1 c) ∗ xany (nxt c) (back 2 c)
    ∗ rany (nxt c) 0 ∗ rany (nxt c) 1 ∗ rany (nxt c) 2)

instance barPay_storable (c : Dev nD) : BI.Storable (upEmb : UEmb _ 𝕄) (barPay (F := F) c) := by unfold barPay; infer_instance

/-- What the cell of transfer semaphore `i` hands device `c`. -/
def xpay (c : Dev nD) (i : Fin 12) : sProp 𝕄 :=
  if i.val < 3 then xsl I c (back ⟨i.val % 4, Nat.mod_lt _ (by decide)⟩ c) fullShare.left
  else if i.val < 6 then xsl I c (back ⟨(i.val - 2) % 4, Nat.mod_lt _ (by decide)⟩ c) fullShare
  else if i.val < 9 then ssl I c ⟨(i.val - 6) % 3, Nat.mod_lt _ (by decide)⟩
  else rsl I c ⟨(i.val - 9) % 3, Nat.mod_lt _ (by decide)⟩

theorem xpay_agS (c : Dev nD) (k : Fin 3) : xpay I c (agS k) = xsl I c (back k.castSucc c) fullShare.left := by
  fin_cases k <;> rfl
theorem xpay_agR (c : Dev nD) (k : Fin 3) : xpay I c (agR k) = xsl I c (back k.succ c) fullShare := by
  fin_cases k <;> rfl
theorem xpay_rsS (c : Dev nD) (k : Fin 3) : xpay I c (rsS k) = ssl I c k := by
  fin_cases k <;> rfl
theorem xpay_rsR (c : Dev nD) (k : Fin 3) : xpay I c (rsR k) = rsl I c k := by
  fin_cases k <;> rfl

instance xpay_storable (c : Dev nD) (i : Fin 12) : BI.Storable (upEmb : UEmb _ 𝕄) (xpay I c i) := by
  unfold xpay
  (repeat' split) <;> infer_instance

abbrev IsBar (g : GSem nD τ sig) : Prop := g.1.2 = .tc ∧ g.2 = .reg barS
abbrev IsXfer (g : GSem nD τ sig) : Prop := g.1.2 = .tc ∧ ∃ i, g.2 = .dma (xsem i)

open Classical in
def ringRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    if g.2 = .reg barS then (if d then barPay g.1.1 else iprop(emp))
    else if h : ∃ i, g.2 = .dma (xsem i) then xpay I g.1.1 h.choose
    else iprop(emp)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd I).payload g r d) := by
  dsimp only [ringRd]
  (repeat' split) <;> infer_instance

section Sched
variable (c : Dev nD) (i : Fin 12)

theorem x_ne_bar : (SemLoc.dma (xsem i) : SemLoc sig) ≠ .reg barS := fun h => by cases h
theorem not_bar_x : ¬ IsBar (xCell c i) := fun h => x_ne_bar i h.2

theorem duties_bar : (ringRd I).duties (barCell c) 0 = Finset.univ := by dsimp only [ringRd]; exact if_pos ⟨rfl, rfl, rfl⟩
theorem duties_x : (ringRd I).duties (xCell c i) 0 = {false} := by
  dsimp only [ringRd]; rw [if_neg (fun h => not_bar_x c i h.2)]; exact if_pos ⟨rfl, rfl, i, rfl⟩
theorem duties_later (g : GSem nD τ sig) : ∀ r, 1 ≤ r → (ringRd I).duties g r = ∅ :=
  fun r hr => by dsimp only [ringRd]; rw [if_neg fun h => by omega, if_neg fun h => by omega]

theorem amount_bar (d : Bool) : (ringRd I).amount (barCell c) 0 d = 1 := by dsimp only [ringRd]; exact if_pos rfl
theorem amount_x (d : Bool) : (ringRd I).amount (xCell c i) 0 d = N := by dsimp only [ringRd]; exact if_neg (x_ne_bar i)

theorem expect_bar : (ringRd I).expect (barCell c) 0 = 2 := by
  unfold Schedule.expect Schedule.amountOf
  rw [duties_bar, Finset.sum_congr rfl fun d _ => amount_bar I c d, Finset.sum_const, Finset.card_univ, Fintype.card_bool, smul_eq_mul]
theorem expect_x : (ringRd I).expect (xCell c i) 0 = N := by
  unfold Schedule.expect Schedule.amountOf; rw [duties_x, Finset.sum_singleton, amount_x]

theorem payload_bar_true : (ringRd I).payload (barCell c) 0 true = barPay c := by dsimp only [ringRd]; rw [if_pos rfl, if_pos rfl]
theorem payload_bar_false : (ringRd I).payload (barCell c) 0 false = iprop(emp) := by
  dsimp only [ringRd]; rw [if_pos rfl]; exact if_neg Bool.false_ne_true
theorem payload_x (d : Bool) : (ringRd I).payload (xCell c i) 0 d = xpay I c i := by
  dsimp only [ringRd]
  have h : ∃ j, (SemLoc.dma (xsem i) : SemLoc sig) = .dma (xsem j) := ⟨i, rfl⟩
  rw [if_neg (x_ne_bar i), dif_pos h]
  have := h.choose_spec
  rw [show h.choose = i from (xsem_injective (SemLoc.dma.inj this)).symm]

theorem rest_bar : bigSep ((ringRd I).duties (barCell c) 0 \ ∅) (fun d => (ringRd I).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_x : bigSep ((ringRd I).duties (xCell c i) 0 \ ∅) (fun d => (ringRd I).payload (xCell c i) 0 d) = xpay I c i := by
  rw [Finset.sdiff_empty, duties_x, bigSep_singleton, payload_x]

end Sched

/-! ## What a device owes, in program order, and the levels -/

/-- The units device `c` pays, in program order: both neighbours' barrier cells, then the receive cells of the device
    after in the order its transfers start. -/
abbrev dues (c : Dev nD) : List (GSem nD τ sig × ℕ) :=
  [(barCell (prv c), 1), (barCell (nxt c), 1), (xCell (nxt c) (agR 0), N), (xCell (nxt c) (agR 1), N),
   (xCell (nxt c) (rsR 0), N), (xCell (nxt c) (agR 2), N), (xCell (nxt c) (rsR 1), N), (xCell (nxt c) (rsR 2), N)]

def owedOf (l : List (GSem nD τ sig × ℕ)) : CellTallies nD τ sig Unit := l.foldr (fun p acc => acc + tallyAt p.1 () p.2) 0
/-- What is still owed once the first `n` are paid. -/
def OL (c : Dev nD) (n : ℕ) : CellTallies nD τ sig Unit := owedOf ((dues c).drop n)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The levels of the semaphores: barrier 1, then the receive semaphores in the order they are waited on; all else 0. -/
def lvs : SemLoc sig → ℕ
  | .reg _ => 1
  | .dma q => if q.val = 7 then 2 else if q.val = 8 then 3 else if q.val = 29 then 4 else if q.val = 9 then 5
      else if q.val = 30 then 6 else if q.val = 31 then 7 else 0
def lv (g : GSem nD τ sig) (_ : Unit) : ℕ := lvs g.2

theorem owedOf_pos {l : List (GSem nD τ sig × ℕ)} {g : GSem nD τ sig} {u : Unit} (h : 0 < owedOf l g u) : ∃ p ∈ l, p.1 = g := by
  induction l with
  | nil => exact absurd h (Nat.lt_irrefl 0)
  | cons p l ih =>
    change 0 < (owedOf l + tallyAt p.1 () p.2) g u at h
    rw [Pi.add_apply, Finsupp.add_apply, tallyAt_apply] at h
    by_cases hg : g = p.1
    · exact ⟨p, List.mem_cons_self, hg.symm⟩
    · rw [if_neg (fun h' => hg h'.1), Nat.add_zero] at h
      obtain ⟨p', hp', e⟩ := ih h
      exact ⟨p', List.mem_cons_of_mem _ hp', e⟩

/-- A device may wait on a semaphore of its own whose level is below all it owes. -/
theorem mayWait_of (c : Dev nD) (sm : SemLoc sig) (n : ℕ) (h : ∀ p ∈ (dues c).drop n, lvs sm < lvs p.1.2) :
    (levAts L lv : sProp 𝕄) ⊢ MayWait (c : Thread nD τ) sm () (OL c n) := by
  have hd : ∀ p ∈ (dues c).drop n, p.1.1.2 = .tc := by
    intro p hp
    have := List.mem_of_mem_drop hp
    simp only [dues, List.mem_cons, List.not_mem_nil, or_false] at this
    rcases this with rfl | rfl | rfl | rfl | rfl | rfl | rfl | rfl <;> rfl
  refine MayOwe.of_cut (L := L) (lev := lv) (lvs sm) (fun p hp => by rw [Finset.mem_singleton.mp hp, L_tc]; exact Finset.mem_singleton_self _)
    (fun g u hg => ?_) (fun p hp => by rw [Finset.mem_singleton.mp hp]; exact le_refl _) (fun g u hg => ?_)
  · obtain ⟨p, hp, rfl⟩ := owedOf_pos hg
    unfold L; rw [if_pos (hd p hp)]; exact Finset.mem_singleton_self _
  · obtain ⟨p, hp, rfl⟩ := owedOf_pos hg
    exact h p hp

theorem dues_lv (c : Dev nD) : (dues c).map (fun p => lvs p.1.2) = [1, 1, 2, 3, 4, 5, 6, 7] := by
  simp only [dues, List.map_cons, List.map_nil]; decide

theorem lv_below (c : Dev nD) (sm : SemLoc sig) (n : ℕ) (h : ∀ x ∈ ([1, 1, 2, 3, 4, 5, 6, 7] : List ℕ).drop n, lvs sm < x) :
    ∀ p ∈ (dues c).drop n, lvs sm < lvs p.1.2 := by
  intro p hp
  refine h _ ?_
  rw [← dues_lv c, ← List.map_drop]
  exact List.mem_map_of_mem hp

/-- The semaphores of the copies inside a device, and the staging semaphores, may be waited on whatever is owed. -/
theorem mayWait_local (c : Dev nD) (n : ℕ) (q : DmaSem sig) (hq : lvs (.dma q) = 0) :
    (levAts L lv : sProp 𝕄) ⊢ MayWait (c : Thread nD τ) (.dma q) () (OL c n) :=
  mayWait_of c _ n (lv_below c _ n fun x hx => by
    have := List.mem_of_mem_drop hx
    rw [hq]
    simp only [List.mem_cons, List.not_mem_nil, or_false] at this
    omega)

/-! ## The records of all cells -/

/-- Every cell of every device: its invariant at the name the launch gave it, and that its round 0 has begun. -/
def recs (K : Dev nD × Fin 13 → ℕ) : sProp 𝕄 :=
  bigSep Finset.univ fun ck : Dev nD × Fin 13 => iprop(cellInv ER (ringRd I) (K ck) (kcell ck) ∗ reached ER (kcell ck) 0)

instance recs_persistent (K) : BI.Persistent (recs I K) := by unfold recs; infer_instance

variable (K : Dev nD × Fin 13 → ℕ)

theorem recs_at (ck : Dev nD × Fin 13) :
    recs I K ⊢ iprop(cellInv ER (ringRd I) (K ck) (kcell ck) ∗ reached ER (kcell ck) 0) := by
  unfold recs
  exact bigSep_elim (Finset.mem_univ ck)

end Cert.RingProof

end
-- ==== Proof.Steps.lean ====
/-
# The steps of the protocol

A load and a store of a slot, a transfer of the gather, a transfer of the scatter, and the wait on a transfer's
cell, each as one rule at the head of a program. Every rule takes the offsets and semaphores as the kernel names
them, with the equation to the closed form.
-/
module

public import proofs.«01_k».proof.Proof.Protocol

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F)

/-! ## The slots' elements -/

abbrev xo (o : Fin 3 → ℕ) (inb : ∀ a, o a + S1x256x1024.size a ≤ S4x256x1024.size a) : Memref sig .tc .vmem S256x1024 .bf16 :=
  (xfM.slice (Rect.unit (s := S4x256x1024) o S1x256x1024.size inb) (fun _ => rfl)).squeeze S256x1024 squeezes_S1x256x1024_S256x1024
abbrev so (o : Fin 3 → ℕ) (inb : ∀ a, o a + S1x256x1024.size a ≤ S3x256x1024.size a) : Memref sig .tc .vmem S256x1024 .bf16 :=
  (sndM.slice (Rect.unit (s := S3x256x1024) o S1x256x1024.size inb) (fun _ => rfl)).squeeze S256x1024 squeezes_S1x256x1024_S256x1024
abbrev ro (o : Fin 3 → ℕ) (inb : ∀ a, o a + S1x256x1024.size a ≤ S3x256x1024.size a) : Memref sig .tc .vmem S256x1024 .bf16 :=
  (rcvM.slice (Rect.unit (s := S3x256x1024) o S1x256x1024.size inb) (fun _ => rfl)).squeeze S256x1024 squeezes_S1x256x1024_S256x1024

theorem xsl_set (j : Fin 4) : (xfM.access (slot4 j)).set = (xslM j).view.set := (View.set_reshape _ _).symm
theorem ssl_set (s : Fin 3) : (sndM.access (slot3 s)).set = (sndslM s).view.set := (View.set_reshape _ _).symm
theorem rsl_set (s : Fin 3) : (rcvM.access (slot3 s)).set = (rcvslM s).view.set := (View.set_reshape _ _).symm

/-- What a slot of the gathered rows reads. -/
theorem xsl_read (j : Fin 4) : (xfM.access (slot4 j)).read (Elt F) (XF I) = XB I j := by
  funext x
  have h0 : (x 0).val < 1 := (x 0).isLt
  have e : (slot4 j).emb x 0 = j := Fin.ext (by show j.val + 1 * (x 0).val = j.val; omega)
  show XB I ((slot4 j).emb x 0) (ix3 0 ((slot4 j).emb x 1) ((slot4 j).emb x 2)) = XB I j x
  rw [e]
  congr 1
  funext a
  fin_cases a
  · exact Fin.ext (by show 0 = (x 0).val; omega)
  · exact Fin.ext (by show 0 + 1 * (x 1).val = (x 1).val; omega)
  · exact Fin.ext (by show 0 + 1 * (x 2).val = (x 2).val; omega)

/-- What a slot of the send buffer reads (the landing buffer's slots lie alike). -/
theorem ssl_at (c : Dev nD) (s : Fin 3) (x : S1x256x1024.Idx) : SND I c ((slot3 s).emb x) = SS I s c x := by
  have h0 : (x 0).val < 1 := (x 0).isLt
  have e : (slot3 s).emb x 0 = s := Fin.ext (by show s.val + 1 * (x 0).val = s.val; omega)
  show SS I ((slot3 s).emb x 0) c (ix3 0 ((slot3 s).emb x 1) ((slot3 s).emb x 2)) = SS I s c x
  rw [e]
  congr 1
  funext a
  fin_cases a
  · exact Fin.ext (by show 0 = (x 0).val; omega)
  · exact Fin.ext (by show 0 + 1 * (x 1).val = (x 1).val; omega)
  · exact Fin.ext (by show 0 + 1 * (x 2).val = (x 2).val; omega)

/-! ## Loads and stores of the slots -/

section Local
variable (c : Dev nD)

theorem load_x {α : Type} {Q : α → sProp 𝕄} (j : Fin 4) (q : PosShare TreeShare) {o : Fin 3 → ℕ} (ho : o = ![j.val, 0, 0])
    {inb : ∀ a, o a + S1x256x1024.size a ≤ S4x256x1024.size a}
    {hl : xfM.view.LoadsAt (Rect.unit (s := S4x256x1024) o S1x256x1024.size inb).toLoadRect}
    {k : (S1x256x1024.Idx → Elt F .bf16) → Prog (TpuEff nD τ sig (Elt F) Λ₀ .tc) α} :
    xsl I c j q ⊢ iprop((xsl I c j q -∗ wp frame (wpE (defs₀ (F := F)) 𝒱₀ (c : Thread nD τ) none) Set.univ (k (XB I j)) Q)
      -∗ wp frame (wpE (defs₀ (F := F)) 𝒱₀ (c : Thread nD τ) none) Set.univ
        (.op (.load xfM (Rect.unit (s := S4x256x1024) o S1x256x1024.size inb).toLoadRect hl) k) Q) := by
  subst ho
  rw [← xsl_read I j]
  unfold xsl
  exact wp_load_rect 𝒱₀ (c : Thread nD τ) none Set.univ (m := xfM) (r := slot4 j) (xsl_set j).le

theorem load_xany {α : Type} {Q : α → sProp 𝕄} (j : Fin 4) {o : Fin 3 → ℕ} (ho : o = ![j.val, 0, 0])
    {inb : ∀ a, o a + S1x256x1024.size a ≤ S4x256x1024.size a}
    {hl : xfM.view.LoadsAt (Rect.unit (s := S4x256x1024) o S1x256x1024.size inb).toLoadRect}
    {k : Prog (TpuEff nD τ sig (Elt F) Λ₀ .tc) α} :
    xany (F := F) c j ⊢ iprop((xany c j -∗ wp frame (wpE (defs₀ (F := F)) 𝒱₀ (c : Thread nD τ) none) Set.univ k Q)
      -∗ wp frame (wpE (defs₀ (F := F)) 𝒱₀ (c : Thread nD τ) none) Set.univ
        (.op (.load xfM (Rect.unit (s := S4x256x1024) o S1x256x1024.size inb).toLoadRect hl) fun _ => k) Q) := by
  subst ho
  unfold xany
  iintro ⟨%f, H⟩ Hk
  iapply (wp_load_rect 𝒱₀ (c : Thread nD τ) none Set.univ (m := xfM) (r := slot4 j) (xsl_set j).le) $$ H
  iintro H
  iapply Hk
  iexists f
  iexact H

theorem store_x {α : Type} {Q : α → sProp 𝕄} (j : Fin 4) {o : Fin 3 → ℕ} (ho : o = ![j.val, 0, 0])
    {inb : ∀ a, o a + S1x256x1024.size a ≤ S4x256x1024.size a} {w : S1x256x1024.Idx → Elt F .bf16} (hw : w = XB I j)
    {hx : (xfM.access (Rect.unit (s := S4x256x1024) o S1x256x1024.size inb)).Stores Finset.univ}
    {hm : (Finset.univ : Finset S1x256x1024.Idx) = Finset.univ ∨ ∀ a, (Rect.unit (s := S4x256x1024) o S1x256x1024.size inb).stride a = 1}
    {k : PUnit → Prog (TpuEff nD τ sig (Elt F) Λ₀ .tc) α} :
    xany (F := F) c j ⊢ iprop((xsl I c j fullShare -∗ wp frame (wpE (defs₀ (F := F)) 𝒱₀ (c : Thread nD τ) none) Set.univ (k ⟨⟩) Q)
      -∗ wp frame (wpE (defs₀ (F := F)) 𝒱₀ (c : Thread nD τ) none) Set.univ
        (.op (.store xfM (Rect.unit (s := S4x256x1024) o S1x256x1024.size inb) w Finset.univ hx hm) k) Q) := by
  subst ho hw
  unfold xany
  iintro ⟨%f, H⟩ Hk
  iapply (wp_store 𝒱₀ (c : Thread nD τ) none Set.univ (m := xfM) (r := slot4 j) (Mk := Finset.univ) (xsl_set j).le) $$ H
  iintro H
  iapply Hk
  unfold xsl
  have e : ∀ i ∈ (xslM j).view.set, (xfM.access (slot4 j)).write (Elt F) f (XB I j) Finset.univ i = XF I i := by
    intro i hi
    rw [← xsl_set j] at hi
    obtain ⟨x, -, rfl⟩ := Finset.mem_map.mp hi
    rw [View.write_emb_of_mem _ _ (Finset.mem_univ x)]
    exact (congrFun (xsl_read I j) x).symm
  iapply (Entails.of_eq (pointsTo_congr (nD := nD) (τ := τ) (sig := sig) (Ix := Unit) (Name := ℕ) (U := UU) (Lvl := ℕ) e))
  iexact H

theorem load_sany {α : Type} {Q : α → sProp 𝕄} (s : Fin 3) {o : Fin 3 → ℕ} (ho : o = ![s.val, 0, 0])
    {inb : ∀ a, o a + S1x256x1024.size a ≤ S3x256x1024.size a}
    {hl : sndM.view.LoadsAt (Rect.unit (s := S3x256x1024) o S1x256x1024.size inb).toLoadRect}
    {k : Prog (TpuEff nD τ sig (Elt F) Λ₀ .tc) α} :
    sany (F := F) c s ⊢ iprop((sany c s -∗ wp frame (wpE (defs₀ (F := F)) 𝒱₀ (c : Thread nD τ) none) Set.univ k Q)
      -∗ wp frame (wpE (defs₀ (F := F)) 𝒱₀ (c : Thread nD τ) none) Set.univ
        (.op (.load sndM (Rect.unit (s := S3x256x1024) o S1x256x1024.size inb).toLoadRect hl) fun _ => k) Q) := by
  subst ho
  unfold sany
  iintro ⟨%f, H⟩ Hk
  iapply (wp_load_rect 𝒱₀ (c : Thread nD τ) none Set.univ (m := sndM) (r := slot3 s) (ssl_set s).le) $$ H
  iintro H
  iapply Hk
  iexists f
  iexact H

theorem store_s {α : Type} {Q : α → sProp 𝕄} (s : Fin 3) {o : Fin 3 → ℕ} (ho : o = ![s.val, 0, 0])
    {inb : ∀ a, o a + S1x256x1024.size a ≤ S3x256x1024.size a} {w : S1x256x1024.Idx → Elt F .bf16} (hw : w = SS I s c)
    {hx : (sndM.access (Rect.unit (s := S3x256x1024) o S1x256x1024.size inb)).Stores Finset.univ}
    {hm : (Finset.univ : Finset S1x256x1024.Idx) = Finset.univ ∨ ∀ a, (Rect.unit (s := S3x256x1024) o S1x256x1024.size inb).stride a = 1}
    {k : PUnit → Prog (TpuEff nD τ sig (Elt F) Λ₀ .tc) α} :
    sany (F := F) c s ⊢ iprop((ssl I c s -∗ wp frame (wpE (defs₀ (F := F)) 𝒱₀ (c : Thread nD τ) none) Set.univ (k ⟨⟩) Q)
      -∗ wp frame (wpE (defs₀ (F := F)) 𝒱₀ (c : Thread nD τ) none) Set.univ
        (.op (.store sndM (Rect.unit (s := S3x256x1024) o S1x256x1024.size inb) w Finset.univ hx hm) k) Q) := by
  subst ho hw
  unfold sany
  iintro ⟨%f, H⟩ Hk
  iapply (wp_store 𝒱₀ (c : Thread nD τ) none Set.univ (m := sndM) (r := slot3 s) (Mk := Finset.univ) (ssl_set s).le) $$ H
  iintro H
  iapply Hk
  unfold ssl
  have e : ∀ i ∈ (sndslM s).view.set, (sndM.access (slot3 s)).write (Elt F) f (SS I s c) Finset.univ i = SND I c i := by
    intro i hi
    rw [← ssl_set s] at hi
    obtain ⟨x, -, rfl⟩ := Finset.mem_map.mp hi
    rw [View.write_emb_of_mem _ _ (Finset.mem_univ x)]
    exact (ssl_at I c s x).symm
  iapply (Entails.of_eq (pointsTo_congr (nD := nD) (τ := τ) (sig := sig) (Ix := Unit) (Name := ℕ) (U := UU) (Lvl := ℕ) e))
  iexact H

theorem load_r {α : Type} {Q : α → sProp 𝕄} (s : Fin 3) {o : Fin 3 → ℕ} (ho : o = ![s.val, 0, 0])
    {inb : ∀ a, o a + S1x256x1024.size a ≤ S3x256x1024.size a}
    {hl : rcvM.view.LoadsAt (Rect.unit (s := S3x256x1024) o S1x256x1024.size inb).toLoadRect}
    {k : (S1x256x1024.Idx → Elt F .bf16) → Prog (TpuEff nD τ sig (Elt F) Λ₀ .tc) α} :
    rsl I c s ⊢ iprop((rsl I c s -∗ wp frame (wpE (defs₀ (F := F)) 𝒱₀ (c : Thread nD τ) none) Set.univ (k (SS I s (prv c))) Q)
      -∗ wp frame (wpE (defs₀ (F := F)) 𝒱₀ (c : Thread nD τ) none) Set.univ
        (.op (.load rcvM (Rect.unit (s := S3x256x1024) o S1x256x1024.size inb).toLoadRect hl) k) Q) := by
  subst ho
  rw [← show (rcvM.access (slot3 s)).read (Elt F) (SND I (prv c)) = SS I s (prv c) from funext fun x => ssl_at I (prv c) s x]
  unfold rsl
  exact wp_load_rect 𝒱₀ (c : Thread nD τ) none Set.univ (m := rcvM) (r := slot3 s) (rsl_set s).le

end Local

/-! ## The transfers -/

variable (K : Dev nD × Fin 13 → ℕ)

theorem kcell_succ (c : Dev nD) (i : Fin 12) : kcell (c, i.succ) = xCell c i := rfl

/-- Gather hop `k`: the device's slot goes, at half its share, to the same slot of the device after. -/
theorem send_ag (c n : Dev nD) (hn : n = nxt c) (k : Fin 3) {o : Fin 3 → ℕ} (ho : o = ![(back k.castSucc c).val, 0, 0])
    {inb : ∀ a, o a + S1x256x1024.size a ≤ S4x256x1024.size a} {sS sR : DmaSem sig} (hS : sS = xsem (agS k)) (hR : sR = xsem (agR k))
    {hsc : (xo o inb).view.ref.isScScratch = false} {hsrc hdst : (xo o inb).view.WordExact}
    {hsem : DmaTarget.Typed .vmem (.dma sR) (.remote (Dev.tc n : Thread nD τ) (xo o inb) (.dma sS) hsc)}
    {α : Type} {Q : α → sProp 𝕄} {p : PUnit → Prog (TpuEff nD τ sig (Elt F) Λ₀ .tc) α} (W : Waits sig Unit) (a b : ℕ)
    (hO : OL c a = OL c b + tallyAt (xCell (nxt c) (agR k)) () N) :
    iprop(recs I K ∗ xsl I c (back k.castSucc c) fullShare.left ∗ xany (nxt c) (back k.castSucc c) ∗ owes (c : Thread nD τ) (OL c a) W
        ∗ dutyTok ER (xCell c (agS k)) 0 false ∗ dutyTok ER (xCell (nxt c) (agR k)) 0 false)
      ⊢ iprop(((cred (tallyAt (xCell c (agS k)) () N) ∗ owes (c : Thread nD τ) (OL c b) W)
            -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (xo o inb) (.remote (Dev.tc n : Thread nD τ) (xo o inb) (.dma sS) hsc) (.dma sR) hsrc hdst hsem) p) Q) := by
  subst hn ho hS hR
  unfold xany
  iintro ⟨#HR, Hx, ⟨%fn, Hn⟩, HO, Ht, Ht'⟩
  ihave H1 := (recs_at I K (c, (agS k).succ)) $$ HR
  icases H1 with ⟨#Hi1, #Hr1⟩
  ihave H2 := (recs_at I K (nxt c, (agR k).succ)) $$ HR
  icases H2 with ⟨#Hi2, #Hr2⟩
  unfold xsl
  iapply (Rounds.wp_send_pointsTo 𝒱₀ ER (ringRd I) (c : Thread nD τ) none (κ₁ := K (c, (agS k).succ)) (κ₂ := K (nxt c, (agR k).succ))
    (r₁ := 0) (r₂ := 0) (d₁ := false) (d₂ := false) (fd := fn)
    (by rw [duties_x]; exact Finset.mem_singleton_self _) (by rw [duties_x]; exact Finset.mem_singleton_self _)
    () () N rfl (amount_x I c _ false) (amount_x I (nxt c) _ false) (OL c b) hO (W := W)
    (by rw [payload_x, xpay_agS]; unfold xsl; exact BI.Entails.refl _)
    (by
      rw [payload_x, xpay_agR, back_succ_nxt]; unfold xsl
      refine Entails.of_eq (pointsTo_congr fun i hi => ?_)
      obtain ⟨x, -, rfl⟩ := Finset.mem_map.mp hi
      rw [View.write_emb_of_mem _ _ (Finset.mem_univ x)]
      rfl)) $$ [Hx Hn HO Ht Ht']
  isplitr; · iexact Hi1
  isplitr; · iexact Hi2
  isplitl [Hx]; · iexact Hx
  isplitl [Hn]; · iexact Hn
  isplitl [HO]; · iexact HO
  isplitl [Ht]; · iexact Ht
  isplitr; · iexact Hr1
  isplitl [Ht']; · iexact Ht'
  iexact Hr2

/-- Scatter hop `s`: slot `s` of the send buffer goes to slot `s` of the landing buffer of the device after. -/
theorem send_rs (c n : Dev nD) (hn : n = nxt c) (s : Fin 3) {o : Fin 3 → ℕ} (ho : o = ![s.val, 0, 0])
    {inb : ∀ a, o a + S1x256x1024.size a ≤ S3x256x1024.size a} {sS sR : DmaSem sig} (hS : sS = xsem (rsS s)) (hR : sR = xsem (rsR s))
    {hsc : (ro o inb).view.ref.isScScratch = false} {hsrc : (so o inb).view.WordExact} {hdst : (ro o inb).view.WordExact}
    {hsem : DmaTarget.Typed .vmem (.dma sR) (.remote (Dev.tc n : Thread nD τ) (ro o inb) (.dma sS) hsc)}
    {α : Type} {Q : α → sProp 𝕄} {p : PUnit → Prog (TpuEff nD τ sig (Elt F) Λ₀ .tc) α} (W : Waits sig Unit) (a b : ℕ)
    (hO : OL c a = OL c b + tallyAt (xCell (nxt c) (rsR s)) () N) :
    iprop(recs I K ∗ ssl I c s ∗ rany (nxt c) s ∗ owes (c : Thread nD τ) (OL c a) W
        ∗ dutyTok ER (xCell c (rsS s)) 0 false ∗ dutyTok ER (xCell (nxt c) (rsR s)) 0 false)
      ⊢ iprop(((cred (tallyAt (xCell c (rsS s)) () N) ∗ owes (c : Thread nD τ) (OL c b) W)
            -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (so o inb) (.remote (Dev.tc n : Thread nD τ) (ro o inb) (.dma sS) hsc) (.dma sR) hsrc hdst hsem) p) Q) := by
  subst hn ho hS hR
  unfold rany
  iintro ⟨#HR, Hx, ⟨%fn, Hn⟩, HO, Ht, Ht'⟩
  ihave H1 := (recs_at I K (c, (rsS s).succ)) $$ HR
  icases H1 with ⟨#Hi1, #Hr1⟩
  ihave H2 := (recs_at I K (nxt c, (rsR s).succ)) $$ HR
  icases H2 with ⟨#Hi2, #Hr2⟩
  unfold ssl
  iapply (Rounds.wp_send_pointsTo 𝒱₀ ER (ringRd I) (c : Thread nD τ) none (κ₁ := K (c, (rsS s).succ)) (κ₂ := K (nxt c, (rsR s).succ))
    (r₁ := 0) (r₂ := 0) (d₁ := false) (d₂ := false) (fd := fn)
    (by rw [duties_x]; exact Finset.mem_singleton_self _) (by rw [duties_x]; exact Finset.mem_singleton_self _)
    () () N rfl (amount_x I c _ false) (amount_x I (nxt c) _ false) (OL c b) hO (W := W)
    (by rw [payload_x, xpay_rsS]; unfold ssl; exact BI.Entails.refl _)
    (by
      rw [payload_x, xpay_rsR]; unfold rsl; rw [prv_nxt]
      refine Entails.of_eq (pointsTo_congr fun i hi => ?_)
      obtain ⟨x, -, rfl⟩ := Finset.mem_map.mp hi
      rw [View.write_emb_of_mem _ _ (Finset.mem_univ x)]
      rfl)) $$ [Hx Hn HO Ht Ht']
  isplitr; · iexact Hi1
  isplitr; · iexact Hi2
  isplitl [Hx]; · iexact Hx
  isplitl [Hn]; · iexact Hn
  isplitl [HO]; · iexact HO
  isplitl [Ht]; · iexact Ht
  isplitr; · iexact Hr1
  isplitl [Ht']; · iexact Ht'
  iexact Hr2

/-- The wait on a transfer's cell: its one round's payload comes, and the cell closes with its counter at zero. -/
theorem wait_x (c : Dev nD) (i : Fin 12) {sm : DmaSem sig} (hs : sm = xsem i) {m₁ m₂ : Memref sig .tc .vmem S256x1024 .bf16}
    {h₁ : m₁.view.WordExact} {h₂ : m₂.view.WordExact} (hN : m₂.view.dmaCredit = N)
    {α : Type} {Q : α → sProp 𝕄} {p : PUnit → Prog (TpuEff nD τ sig (Elt F) Λ₀ .tc) α} (W : Waits sig Unit) (n : ℕ)
    (hlv : ∀ x ∈ ([1, 1, 2, 3, 4, 5, 6, 7] : List ℕ).drop n, lvs (.dma (xsem i) : SemLoc sig) < x) :
    iprop(recs I K ∗ levAts L lv ∗ cred (tallyAt (xCell c i) () N) ∗ owes (c : Thread nD τ) (OL c n) W ∗ atPos ER (xCell c i) 0 ∅ 0)
      ⊢ iprop(((owes (c : Thread nD τ) (OL c n) (insert (SemLoc.dma (xsem i), ()) W) ∗ semVal (xCell c i) 0 ∗ xpay I c i)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 sm m₁ m₂ h₁ h₂) p) Q) := by
  subst hs
  iintro ⟨#HR, #Hlev, Hc, HO, Hat⟩ Hk
  ihave H1 := (recs_at I K (c, i.succ)) $$ HR
  icases H1 with ⟨#Hi1, #Hr1⟩
  iapply (Rounds.wp_wait_rest_token 𝒱₀ ER (ringRd I) (c : Thread nD τ) none (κ := K (c, i.succ))
      (wpE_waitDma2_eq 𝒱₀ (c : Thread nD τ) none Set.univ) (Set.mem_univ _) () (O := OL c n) (W := W) (R := 0) (m := 0) (T := ∅)
      (by rw [Nat.zero_add, expect_x, hN])) $$ [Hc HO Hat]
  · isplitr; · iexact Hi1
    isplitl [Hc]; · rw [hN]; iexact Hc
    isplitl [HO]; · iexact HO
    isplitr; · iapply (mayWait_of c (.dma (xsem i)) n (lv_below c _ n hlv)); iexact Hlev
    iexact Hat
  iintro ⟨HO, Hat, -, Hpay⟩
  ihave Hp := (Entails.of_eq (rest_x I c i)) $$ Hpay
  imod (Rounds.cell_close ER (ringRd I) (Set.mem_univ (K (c, i.succ))) (fun h => h) (R := 0 + 1) (duties_later I (xCell c i))) $$ [Hat] with Hz
  · isplitr; · iexact Hi1
    iexact Hat
  iapply Hk
  isplitl [HO]; · iexact HO
  isplitl [Hz]; · iexact Hz
  iexact Hp

end Cert.RingProof

end
-- ==== Proof.Pieces.lean ====
/-
# The pieces of a device's state between two parts of the body

What each buffer and each semaphore is known to hold at a boundary, as one assertion each, and the lemmas that
read and rebuild them.
-/
module

public import proofs.«01_k».proof.Proof.Steps

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F)

/-- A part of the body at the buffers and semaphores of the call. -/
abbrev atBufs {β : Type 1} (f : (arg0 : Memref sig .tc .vmem S1x256x1024 .f32) → (harg0 : arg0.IsWhole) →
    (arg1 : Memref sig .tc .vmem S1024x1024 .f32) → (harg1 : arg1.IsWhole) →
    (arg2 : Memref sig .tc .vmem S1024x1024 .f32) → (harg2 : arg2.IsWhole) →
    (arg3 : Memref sig .tc .hbm S1x4096x32x128 .f32) → (harg3 : arg3.IsWhole) →
    (arg4 : Memref sig .tc .hbm S1x4096x32x128 .f32) → (harg4 : arg4.IsWhole) →
    (arg5 : Memref sig .tc .vmem S1x256x1024 .f32) → (harg5 : arg5.IsWhole) →
    (arg6 : Memref sig .tc .vmem S4x256x1024 .bf16) → (harg6 : arg6.IsWhole) →
    (arg7 : Memref sig .tc .vmem S1024x1024 .bf16) → (harg7 : arg7.IsWhole) →
    (arg8 : Memref sig .tc .vmem S2x4096x128 .f32) → (harg8 : arg8.IsWhole) →
    (arg9 : Memref sig .tc .vmem S2x4096x128 .f32) → (harg9 : arg9.IsWhole) →
    (arg10 : Memref sig .tc .vmem S8x4096x128 .bf16) → (harg10 : arg10.IsWhole) →
    (arg11 : Memref sig .tc .vmem S8x4096x128 .bf16) → (harg11 : arg11.IsWhole) →
    (arg12 : Memref sig .tc .vmem S1024x1024 .bf16) → (harg12 : arg12.IsWhole) →
    (arg13 : Memref sig .tc .vmem S1024x1024 .bf16) → (harg13 : arg13.IsWhole) →
    (arg14 : Memref sig .tc .vmem S3x256x1024 .bf16) → (harg14 : arg14.IsWhole) →
    (arg15 : Memref sig .tc .vmem S3x256x1024 .bf16) → (harg15 : arg15.IsWhole) →
    (arg16 : DmaSems sig S3) →
    (arg17 : DmaSems sig S3) →
    (arg18 : DmaSems sig S8) →
    (arg19 : DmaSems sig S8) →
    (arg20 : DmaSems sig S3) →
    (arg21 : DmaSems sig S3) → β) : β :=
  f (Memref.whole cc0_stg0_0) (Memref.isWhole_whole _)
    (Memref.whole cc0_stg1_0) (Memref.isWhole_whole _)
    (Memref.whole cc0_stg2_0) (Memref.isWhole_whole _)
    (Memref.whole main_arg2) (Memref.isWhole_whole _)
    (Memref.whole main_arg3) (Memref.isWhole_whole _)
    (Memref.whole cc0_stg3_0) (Memref.isWhole_whole _)
    (Memref.whole cc0_scratch0) (Memref.isWhole_whole _)
    (Memref.whole cc0_scratch1) (Memref.isWhole_whole _)
    (Memref.whole cc0_scratch2) (Memref.isWhole_whole _)
    (Memref.whole cc0_scratch3) (Memref.isWhole_whole _)
    (Memref.whole cc0_scratch4) (Memref.isWhole_whole _)
    (Memref.whole cc0_scratch5) (Memref.isWhole_whole _)
    (Memref.whole cc0_scratch6) (Memref.isWhole_whole _)
    (Memref.whole cc0_scratch7) (Memref.isWhole_whole _)
    (Memref.whole cc0_scratch8) (Memref.isWhole_whole _)
    (Memref.whole cc0_scratch9) (Memref.isWhole_whole _)
    cc0_scratch10 cc0_scratch11 cc0_scratch12 cc0_scratch13 cc0_scratch14 cc0_scratch15

/-! ## Whole buffers -/

/-- A whole buffer at a share. -/
abbrev hw (c : Dev nD) (b : Ref sig .tc) (q : PosShare TreeShare) (f : b.ty.Contents (Elt F)) : sProp 𝕄 :=
  (Memref.whole b).view.loc (c : Thread nD τ) ↦{q} f
abbrev hany (c : Dev nD) (b : Ref sig .tc) : sProp 𝕄 := iprop(∃ f, hw (F := F) c b fullShare f)

/-- The keys landed so far, the values landed so far, and the tiles written so far. -/
def KBst (c : Dev nD) (n : ℕ) : sProp 𝕄 := iprop(∃ f, ⌜Heads (KB I c) n f⌝ ∗ hw c cc0_scratch4 fullShare f)
def VBst (c : Dev nD) (n : ℕ) : sProp 𝕄 := iprop(∃ f, ⌜Heads (VB I c) n f⌝ ∗ hw c cc0_scratch5 fullShare f)
def ATst (c : Dev nD) (n : Fin 4 → ℕ) : sProp 𝕄 := iprop(∃ f, ⌜Tiles I c n f⌝ ∗ hw c cc0_scratch1 fullShare f)

/-! ## The copies of the keys and values -/

theorem inb_slot2 (j : Fin 2) : ∀ a, (![j.val, 0, 0] : Fin 3 → Nat) a + S1x4096x128.size a ≤ S2x4096x128.size a := by
  revert j; decide
abbrev slot2 (j : Fin 2) : Rect S2x4096x128 := Rect.unit (s := S2x4096x128) ![j.val, 0, 0] S1x4096x128.size (inb_slot2 j)
abbrev kst (c : Dev nD) (s : Fin 2) (f : cc0_scratch2.ty.Contents (Elt F)) : sProp 𝕄 :=
  (Memref.whole cc0_scratch2).view.loc (c : Thread nD τ) ↦[(Memref.whole cc0_scratch2).view.setOn (slot2 s).set]{fullShare} f
abbrev vst (c : Dev nD) (s : Fin 2) (f : cc0_scratch3.ty.Contents (Elt F)) : sProp 𝕄 :=
  (Memref.whole cc0_scratch3).view.loc (c : Thread nD τ) ↦[(Memref.whole cc0_scratch3).view.setOn (slot2 s).set]{fullShare} f
/-- A slot of a staging buffer nothing is in flight to. -/
def kfree (c : Dev nD) (s : Fin 2) : sProp 𝕄 := iprop(∃ f, kst (F := F) c s f)
def vfree (c : Dev nD) (s : Fin 2) : sProp 𝕄 := iprop(∃ f, vst (F := F) c s f)

abbrev ksem (h : Fin 8) : DmaSem sig := ⟨10 + h.val, by show _ < 32; omega⟩
abbrev vsem (h : Fin 8) : DmaSem sig := ⟨18 + h.val, by show _ < 32; omega⟩
/-- Slot `s` of the contents `g` of a staging buffer is `w`. -/
def Slot (s : Fin 2) (g : S2x4096x128.Idx → Elt F .f32) (w : S1x4096x128.Idx → Elt F .f32) : Prop :=
  ∀ x, g ((slot2 s).emb x) = w x

/-- A copy of head `h` in flight to slot `s`; it lends a part of the keys (of the values). -/
def KF (c : Dev nD) (h : Fin 8) (s : Fin 2) : sProp 𝕄 :=
  iprop(∃ g S, ⌜Slot s g (headOf (I.k c) c h)⌝ ∗ Transfers.Flight (countersEmb (nD := nD) (τ := τ) (sig := sig) (Ix := Unit)) (c : Thread nD τ) (.dma (ksem h)) () 65536
    iprop(kst c s g ∗ ((Memref.whole main_arg2).view.loc (c : Thread nD τ) ↦[S]{Transfers.shareTokN fullShare (10 + h.val)} I.k c)))
def VF (c : Dev nD) (h : Fin 8) (s : Fin 2) : sProp 𝕄 :=
  iprop(∃ g S, ⌜Slot s g (headOf (I.v c) c h)⌝ ∗ Transfers.Flight (countersEmb (nD := nD) (τ := τ) (sig := sig) (Ix := Unit)) (c : Thread nD τ) (.dma (vsem h)) () 65536
    iprop(vst c s g ∗ ((Memref.whole main_arg3).view.loc (c : Thread nD τ) ↦[S]{Transfers.shareTokN fullShare (18 + h.val)} I.v c)))

/-- What starting the copies of head `h` takes: a share of the keys and of the values, and the two semaphores at zero. -/
def KT (c : Dev nD) (h : Fin 8) : sProp 𝕄 :=
  iprop(hw c main_arg2 (Transfers.shareTokN fullShare (10 + h.val)) (I.k c) ∗ semVal ((c : Thread nD τ), .dma (ksem h)) 0)
def VT (c : Dev nD) (h : Fin 8) : sProp 𝕄 :=
  iprop(hw c main_arg3 (Transfers.shareTokN fullShare (18 + h.val)) (I.v c) ∗ semVal ((c : Thread nD τ), .dma (vsem h)) 0)
abbrev KZ (c : Dev nD) (h : Fin 8) : sProp 𝕄 := semVal ((c : Thread nD τ), .dma (ksem h)) 0
abbrev VZ (c : Dev nD) (h : Fin 8) : sProp 𝕄 := semVal ((c : Thread nD τ), .dma (vsem h)) 0

/-- A head landed in its slot. -/
def KL (c : Dev nD) (h : Fin 8) (s : Fin 2) : sProp 𝕄 := iprop(∃ g, ⌜Slot s g (headOf (I.k c) c h)⌝ ∗ kst c s g)

/-! ## The cells of the transfers -/

/-- The credit of a transfer's cell, the device's place at it, its counter at zero, and the right to pay it. -/
abbrev XC (c : Dev nD) (i : Fin 12) : sProp 𝕄 := cred (tallyAt (xCell c i) () N)
abbrev XP (c : Dev nD) (i : Fin 12) : sProp 𝕄 := atPos ER (xCell c i) 0 ∅ 0
abbrev XZ (c : Dev nD) (i : Fin 12) : sProp 𝕄 := semVal (xCell c i) 0
abbrev XT (c : Dev nD) (i : Fin 12) : sProp 𝕄 := dutyTok ER (xCell c i) 0 false

/-! ## What is owed -/

def OW (c : Dev nD) (n : ℕ) : sProp 𝕄 := iprop(∃ W, owes (c : Thread nD τ) (OL c n) W)

/-- The local semaphores may be waited on whatever is owed. -/
theorem wait_local (c : Dev nD) (n : ℕ) (q : DmaSem sig) (hq : 10 ≤ q.val ∧ q.val < 26) :
    (levAts L lv : sProp 𝕄) ⊢ MayWait (c : Thread nD τ) (.dma q) () (OL c n) :=
  mayWait_local c n q (by
    show (if q.val = 7 then 2 else if q.val = 8 then 3 else if q.val = 29 then 4 else if q.val = 9 then 5
      else if q.val = 30 then 6 else if q.val = 31 then 7 else 0) = 0
    (repeat' split) <;> omega)

end Cert.RingProof

end
-- ==== Proof.Close.lean ====
/-
# Rebuilding the pieces

The entailments that turn what a stretch of the body leaves behind back into the pieces' assertions, and the
equations between what it computed and the values of the run.
-/
module

public import proofs.«01_k».proof.Proof.Pieces

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F)

/-! ## The staging slots -/

/-- What a load of a landed slot reads. -/
theorem stage_k {s : Fin 2} {g : cc0_scratch2.ty.Contents (Elt F)} {w : S1x4096x128.Idx → Elt F .f32} (hg : Slot s g w)
    {off : Fin 3 → ℕ} (ho : off = ![s.val, 0, 0]) (inb : ∀ a, off a + S1x4096x128.size a ≤ S2x4096x128.size a) :
    (Memref.whole cc0_scratch2).view.readAt (Elt F) (Rect.unit (s := S2x4096x128) off S1x4096x128.size inb).toLoadRect g = w := by
  subst ho
  exact funext hg
theorem stage_v {s : Fin 2} {g : cc0_scratch3.ty.Contents (Elt F)} {w : S1x4096x128.Idx → Elt F .f32} (hg : Slot s g w)
    {off : Fin 3 → ℕ} (ho : off = ![s.val, 0, 0]) (inb : ∀ a, off a + S1x4096x128.size a ≤ S2x4096x128.size a) :
    (Memref.whole cc0_scratch3).view.readAt (Elt F) (Rect.unit (s := S2x4096x128) off S1x4096x128.size inb).toLoadRect g = w := by
  subst ho
  exact funext hg

/-- A head of the keys (of the values), as a view of the whole array, read at an index. -/
theorem head_emb (c : Dev nD) (h : Fin 8) {o : Fin 4 → ℕ} (ho : o = ![0, 0, 8 * c.val + h.val, 0])
    (inb : ∀ a, o a + S1x4096x1x128.size a ≤ S1x4096x32x128.size a) (hn : S4096x128.numel = S1x4096x1x128.numel)
    (f : S1x4096x32x128.Idx → Elt F .f32) (a : Fin 4096) (b : Fin 128) :
    f ((Rect.unit (s := S1x4096x32x128) o S1x4096x1x128.size inb).emb (Shape.reshapeEquiv hn (ix2 a b))) = headOf f c h (ix3 0 a b) := by
  subst ho
  have e : Shape.reshapeEquiv hn (ix2 a b) = (ix4 0 a 0 b : S1x4096x1x128.Idx) := by
    refine Shape.reshapeEquiv_eq_of_rowMajor hn ?_
    rw [Shape.rowMajor_val_two, Shape.rowMajor_val_four]
    show (((0 : ℕ) * 4096 + a.val) * 1 + 0) * 128 + b.val = a.val * 128 + b.val
    omega
  rw [e]
  unfold headOf
  congr 1
  funext i
  fin_cases i
  · rfl
  · exact Fin.ext (by show 0 + 1 * a.val = a.val; omega)
  · exact Fin.ext (by show 8 * c.val + h.val + 1 * 0 = 8 * c.val + h.val; omega)
  · exact Fin.ext (by show 0 + 1 * b.val = b.val; omega)

theorem slot_reshape (s : Fin 2) (hn : S4096x128.numel = S1x4096x128.numel) (x : S1x4096x128.Idx) :
    Shape.reshapeEquiv hn (ix2 (x 1) (x 2)) = x := by
  refine Shape.reshapeEquiv_eq_of_rowMajor hn ?_
  have h0 : (x 0).val < 1 := (x 0).isLt
  rw [Shape.rowMajor_val_two, Shape.rowMajor_val_three]
  show ((x 0).val * 4096 + (x 1).val) * 128 + (x 2).val = (x 1).val * 128 + (x 2).val
  omega

abbrev ko (o : Fin 4 → ℕ) (inb : ∀ a, o a + S1x4096x1x128.size a ≤ S1x4096x32x128.size a) : Memref sig .tc .hbm S4096x128 .f32 :=
  ((Memref.whole main_arg2).slice (Rect.unit (s := S1x4096x32x128) o S1x4096x1x128.size inb) (fun _ => rfl)).squeeze S4096x128 squeezes_S1x4096x1x128_S4096x128
abbrev vo (o : Fin 4 → ℕ) (inb : ∀ a, o a + S1x4096x1x128.size a ≤ S1x4096x32x128.size a) : Memref sig .tc .hbm S4096x128 .f32 :=
  ((Memref.whole main_arg3).slice (Rect.unit (s := S1x4096x32x128) o S1x4096x1x128.size inb) (fun _ => rfl)).squeeze S4096x128 squeezes_S1x4096x1x128_S4096x128
abbrev kso (o : Fin 3 → ℕ) (inb : ∀ a, o a + S1x4096x128.size a ≤ S2x4096x128.size a) : Memref sig .tc .vmem S4096x128 .f32 :=
  ((Memref.whole cc0_scratch2).slice (Rect.unit (s := S2x4096x128) o S1x4096x128.size inb) (fun _ => rfl)).squeeze S4096x128 squeezes_S1x4096x128_S4096x128
abbrev vso (o : Fin 3 → ℕ) (inb : ∀ a, o a + S1x4096x128.size a ≤ S2x4096x128.size a) : Memref sig .tc .vmem S4096x128 .f32 :=
  ((Memref.whole cc0_scratch3).slice (Rect.unit (s := S2x4096x128) o S1x4096x128.size inb) (fun _ => rfl)).squeeze S4096x128 squeezes_S1x4096x128_S4096x128

/-- What the copy of head `h` leaves in slot `s`. -/
theorem kslot (c : Dev nD) (h : Fin 8) (s : Fin 2) {o : Fin 4 → ℕ} (ho : o = ![0, 0, 8 * c.val + h.val, 0])
    (inb : ∀ a, o a + S1x4096x1x128.size a ≤ S1x4096x32x128.size a) {o' : Fin 3 → ℕ} (ho' : o' = ![s.val, 0, 0])
    (inb' : ∀ a, o' a + S1x4096x128.size a ≤ S2x4096x128.size a) (f : cc0_scratch2.ty.Contents (Elt F))
    (K : main_arg2.ty.Contents (Elt F)) :
    Slot s ((kso o' inb').view.write (Elt F) f ((ko o inb).view.read (Elt F) K) Finset.univ) (headOf K c h) := by
  subst ho'
  intro (x : S1x4096x128.Idx)
  have e : (slot2 s).emb x = (kso ![s.val, 0, 0] inb').view.emb (ix2 (x 1) (x 2)) :=
    (congrArg (slot2 s).emb (slot_reshape s _ x)).symm
  have h0 : x = ix3 0 (x 1) (x 2) := by
    funext i
    have h0 : (x 0).val < 1 := (x 0).isLt
    fin_cases i
    · exact Fin.ext (by show (x 0).val = 0; omega)
    · rfl
    · rfl
  rw [e]
  refine (View.write_emb_of_mem (v := (kso ![s.val, 0, 0] inb').view) f _ (Finset.mem_univ _)).trans ?_
  refine (head_emb c h ho inb _ K (x 1) (x 2)).trans ?_
  exact congrArg (headOf K c h) h0.symm
theorem vslot (c : Dev nD) (h : Fin 8) (s : Fin 2) {o : Fin 4 → ℕ} (ho : o = ![0, 0, 8 * c.val + h.val, 0])
    (inb : ∀ a, o a + S1x4096x1x128.size a ≤ S1x4096x32x128.size a) {o' : Fin 3 → ℕ} (ho' : o' = ![s.val, 0, 0])
    (inb' : ∀ a, o' a + S1x4096x128.size a ≤ S2x4096x128.size a) (f : cc0_scratch3.ty.Contents (Elt F))
    (K : main_arg3.ty.Contents (Elt F)) :
    Slot s ((vso o' inb').view.write (Elt F) f ((vo o inb).view.read (Elt F) K) Finset.univ) (headOf K c h) := by
  subst ho'
  intro (x : S1x4096x128.Idx)
  have e : (slot2 s).emb x = (vso ![s.val, 0, 0] inb').view.emb (ix2 (x 1) (x 2)) :=
    (congrArg (slot2 s).emb (slot_reshape s _ x)).symm
  have h0 : x = ix3 0 (x 1) (x 2) := by
    funext i
    have h0 : (x 0).val < 1 := (x 0).isLt
    fin_cases i
    · exact Fin.ext (by show (x 0).val = 0; omega)
    · rfl
    · rfl
  rw [e]
  refine (View.write_emb_of_mem (v := (vso ![s.val, 0, 0] inb').view) f _ (Finset.mem_univ _)).trans ?_
  refine (head_emb c h ho inb _ K (x 1) (x 2)).trans ?_
  exact congrArg (headOf K c h) h0.symm

/-- A landed head, cast for the products. -/
theorem land_k (c : Dev nD) (h : Fin 8) {s : Fin 2} {g : cc0_scratch2.ty.Contents (Elt F)} (hg : Slot s g (headOf (I.k c) c h))
    {off : Fin 3 → ℕ} (ho : off = ![s.val, 0, 0]) (inb : ∀ a, off a + S1x4096x128.size a ≤ S2x4096x128.size a) :
    k0_pay5 ((Memref.whole cc0_scratch2).view.readAt (Elt F) (Rect.unit (s := S2x4096x128) off S1x4096x128.size inb).toLoadRect g)
      = KB I c h := congrArg k0_pay5 (stage_k hg ho inb)
theorem land_v (c : Dev nD) (h : Fin 8) {s : Fin 2} {g : cc0_scratch3.ty.Contents (Elt F)} (hg : Slot s g (headOf (I.v c) c h))
    {off : Fin 3 → ℕ} (ho : off = ![s.val, 0, 0]) (inb : ∀ a, off a + S1x4096x128.size a ≤ S2x4096x128.size a) :
    k0_pay5 ((Memref.whole cc0_scratch3).view.readAt (Elt F) (Rect.unit (s := S2x4096x128) off S1x4096x128.size inb).toLoadRect g)
      = VB I c h := congrArg k0_pay5 (stage_v hg ho inb)

/-- A tile computed from the queries and the landed heads. -/
theorem tile_eq (c j : Dev nD) (h : Fin 8) {qb : FVec F S256x1024 .bf16} (e : qb = QB I c j) {n n' : ℕ}
    {f : cc0_scratch4.ty.Contents (Elt F)} (hf : Heads (KB I c) n f) {f' : cc0_scratch5.ty.Contents (Elt F)} (hf' : Heads (VB I c) n' f')
    (hn : h.val < n) (hn' : h.val < n') {off off' : Fin 3 → ℕ} (ho : off = ![h.val, 0, 0]) (ho' : off' = ![h.val, 0, 0])
    (inb : ∀ a, off a + S1x4096x128.size a ≤ S8x4096x128.size a) (inb' : ∀ a, off' a + S1x4096x128.size a ≤ S8x4096x128.size a) :
    headOut h qb ((Memref.whole cc0_scratch4).view.readAt (Elt F) (Rect.unit (s := S8x4096x128) off S1x4096x128.size inb).toLoadRect f)
      ((Memref.whole cc0_scratch5).view.readAt (Elt F) (Rect.unit (s := S8x4096x128) off' S1x4096x128.size inb').toLoadRect f')
      = HO I c j h := by
  rw [kbf_get hf h hn ho inb, vbf_get hf' h hn' ho' inb', e]
  rfl

/-! ## Whole buffers read and stored -/

theorem zeros2 : (![0, 0] : Fin 2 → ℕ) = fun _ => 0 := by decide
theorem zeros3 : (![0, 0, 0] : Fin 3 → ℕ) = fun _ => 0 := by decide

/-- A slot's share, cut in halves: one travels with the transfer, one is read meanwhile. -/
theorem xsl_halves (c : Dev nD) (j : Fin 4) : xsl I c j fullShare ⊢ iprop(xsl I c j fullShare.left ∗ xsl I c j fullShare.right) := by
  unfold xsl; exact (pointsTo_share (PosShare.mem_left_op_right fullShare)).1
theorem xsl_join (c : Dev nD) (j : Fin 4) : iprop(xsl I c j fullShare.left ∗ xsl I c j fullShare.right) ⊢ xsl I c j fullShare := by
  unfold xsl; exact (pointsTo_share (PosShare.mem_left_op_right fullShare)).2

/-- The first signal hands the device before the buffers its transfers land in. -/
theorem barPay_prv (c : Dev nD) :
    iprop(xany c (back 1 c) ∗ xany c (back 2 c) ∗ xany c (back 3 c) ∗ rany c 0 ∗ rany c 1 ∗ rany c 2) = barPay (F := F) (prv c) := by
  have h0 := back_succ_nxt 0 (prv c)
  have h1 := back_succ_nxt 1 (prv c)
  have h2 := back_succ_nxt 2 (prv c)
  rw [nxt_prv] at h0 h1 h2
  change back 1 c = back 0 (prv c) at h0
  change back 2 c = back 1 (prv c) at h1
  change back 3 c = back 2 (prv c) at h2
  unfold barPay
  rw [nxt_prv, ← h0, ← h1, ← h2]

/-- All slots weigh the same. -/
theorem credit_x (o : Fin 3 → ℕ) (inb : ∀ a, o a + S1x256x1024.size a ≤ S4x256x1024.size a) : (xo o inb).view.dmaCredit = N := rfl
theorem credit_s (o : Fin 3 → ℕ) (inb : ∀ a, o a + S1x256x1024.size a ≤ S3x256x1024.size a) : (so o inb).view.dmaCredit = N := rfl
theorem credit_r (o : Fin 3 → ℕ) (inb : ∀ a, o a + S1x256x1024.size a ≤ S3x256x1024.size a) : (ro o inb).view.dmaCredit = N := rfl

theorem put_whole (b : Ref sig .tc) {off : Fin b.ty.shape.rank → ℕ} (h : off = fun _ => 0)
    (inb : ∀ a, off a + b.ty.shape.size a ≤ b.ty.shape.size a) (f w : b.ty.Contents (Elt F)) :
    (Memref.whole b).view.writes (Elt F) f [⟨Rect.unit off b.ty.shape.size inb, w⟩] = w :=
  Memref.write_access_unit_zero_univ (Elt F) b h inb f w

theorem rd_wq (c : Dev nD) (inb : ∀ a, (![0, 0] : Fin 2 → ℕ) a + S1024x1024.size a ≤ S1024x1024.size a) :
    (Memref.whole cc0_scratch6).view.readAt (Elt F) (Rect.unit (s := S1024x1024) ![0, 0] S1024x1024.size inb).toLoadRect (WQ I c) = WQ I c :=
  Memref.readAt_unit_zero (Elt F) cc0_scratch6 zeros2 inb _
theorem rd_wo (c : Dev nD) (inb : ∀ a, (![0, 0] : Fin 2 → ℕ) a + S1024x1024.size a ≤ S1024x1024.size a) :
    (Memref.whole cc0_scratch7).view.readAt (Elt F) (Rect.unit (s := S1024x1024) ![0, 0] S1024x1024.size inb).toLoadRect (WO I c) = WO I c :=
  Memref.readAt_unit_zero (Elt F) cc0_scratch7 zeros2 inb _

/-- What a wait brings back. -/
theorem got_agS (c : Dev nD) (k : Fin 3) {j : Fin 4} (hj : j = k.castSucc) : xpay I c (agS k) ⊢ xsl I c (back j c) fullShare.left := by
  rw [hj, xpay_agS]
theorem got_agR (c : Dev nD) (k : Fin 3) {j : Fin 4} (hj : j = k.succ) : xpay I c (agR k) ⊢ xsl I c (back j c) fullShare := by
  rw [hj, xpay_agR]
theorem got_rsS (c : Dev nD) (k : Fin 3) : xpay I c (rsS k) ⊢ ssl I c k := by rw [xpay_rsS]
theorem got_rsR (c : Dev nD) (k : Fin 3) : xpay I c (rsR k) ⊢ rsl I c k := by rw [xpay_rsR]

/-! ## Folding the pieces -/

theorem OW_intro (c : Dev nD) (n : ℕ) (W : Waits sig Unit) : owes (c : Thread nD τ) (OL c n) W ⊢ OW (F := F) c n := by
  unfold OW; iintro H; iexists W; iexact H
theorem kfree_intro (c : Dev nD) (s : Fin 2) (f : cc0_scratch2.ty.Contents (Elt F)) : kst c s f ⊢ kfree c s := by
  unfold kfree; iintro H; iexists f; iexact H
theorem vfree_intro (c : Dev nD) (s : Fin 2) (f : cc0_scratch3.ty.Contents (Elt F)) : vst c s f ⊢ vfree c s := by
  unfold vfree; iintro H; iexists f; iexact H

/-- Storing head `h` of the keys (of the values) in its slot. -/
theorem KB_put (c : Dev nD) (h : Fin 8) {n : ℕ} (hn : n = h.val + 1) {f : cc0_scratch4.ty.Contents (Elt F)} (hf : Heads (KB I c) h.val f)
    {off : Fin 3 → ℕ} (ho : off = ![h.val, 0, 0]) {inb : ∀ a, off a + S1x4096x128.size a ≤ S8x4096x128.size a}
    {w : S1x4096x128.Idx → Elt F .bf16} (hw' : w = KB I c h) :
    hw c cc0_scratch4 fullShare ((Memref.whole cc0_scratch4).view.writes (Elt F) f [⟨Rect.unit (s := S8x4096x128) off S1x4096x128.size inb, w⟩])
      ⊢ KBst I c n := by
  subst hn
  unfold KBst
  iintro H
  iexists _
  isplitr
  · ipureintro; exact kbf_put h hf ho inb hw'
  · iexact H
theorem VB_put (c : Dev nD) (h : Fin 8) {n : ℕ} (hn : n = h.val + 1) {f : cc0_scratch5.ty.Contents (Elt F)} (hf : Heads (VB I c) h.val f)
    {off : Fin 3 → ℕ} (ho : off = ![h.val, 0, 0]) {inb : ∀ a, off a + S1x4096x128.size a ≤ S8x4096x128.size a}
    {w : S1x4096x128.Idx → Elt F .bf16} (hw' : w = VB I c h) :
    hw c cc0_scratch5 fullShare ((Memref.whole cc0_scratch5).view.writes (Elt F) f [⟨Rect.unit (s := S8x4096x128) off S1x4096x128.size inb, w⟩])
      ⊢ VBst I c n := by
  subst hn
  unfold VBst
  iintro H
  iexists _
  isplitr
  · ipureintro; exact vbf_put h hf ho inb hw'
  · iexact H

theorem KB_fold (c : Dev nD) (n : ℕ) {f : cc0_scratch4.ty.Contents (Elt F)} (hf : Heads (KB I c) n f) :
    hw c cc0_scratch4 fullShare f ⊢ KBst I c n := by
  unfold KBst; iintro H; iexists f; isplitr
  · ipureintro; exact hf
  · iexact H
theorem VB_fold (c : Dev nD) (n : ℕ) {f : cc0_scratch5.ty.Contents (Elt F)} (hf : Heads (VB I c) n f) :
    hw c cc0_scratch5 fullShare f ⊢ VBst I c n := by
  unfold VBst; iintro H; iexists f; isplitr
  · ipureintro; exact hf
  · iexact H
theorem AT_fold (c : Dev nD) (n : Fin 4 → ℕ) {f : cc0_scratch1.ty.Contents (Elt F)} (hf : Tiles I c n f) :
    hw c cc0_scratch1 fullShare f ⊢ ATst I c n := by
  unfold ATst; iintro H; iexists f; isplitr
  · ipureintro; exact hf
  · iexact H

theorem AT_open (c : Dev nD) (n : Fin 4 → ℕ) : ATst I c n ⊢ iprop(∃ f, ⌜Tiles I c n f⌝ ∗ hw c cc0_scratch1 fullShare f) := .rfl

/-- Storing one tile, and two tiles one after the other. -/
theorem AT_put (c : Dev nD) {n n' : Fin 4 → ℕ} {f : cc0_scratch1.ty.Contents (Elt F)} (hf : Tiles I c n f) (r : Fin 4) (h : Fin 8)
    (hn : n r = h.val) (hn' : n' = Function.update n r (h.val + 1))
    {off : Fin 2 → ℕ} (ho : off = ![256 * (back r c).val, 128 * h.val]) {inb : ∀ a, off a + S256x128.size a ≤ S1024x1024.size a}
    {w : S256x128.Idx → Elt F .bf16} (hw' : w = HO I c (back r c) h) :
    hw c cc0_scratch1 fullShare ((Memref.whole cc0_scratch1).view.writes (Elt F) f [⟨Rect.unit (s := S1024x1024) off S256x128.size inb, w⟩])
      ⊢ ATst I c n' :=
  AT_fold I c n' (tiles_put I hf r h hn ho inb hw' n' hn')
theorem AT_put2 (c : Dev nD) {n n' : Fin 4 → ℕ} {f : cc0_scratch1.ty.Contents (Elt F)} (hf : Tiles I c n f) (r : Fin 4) (h h' : Fin 8)
    (hh : h'.val = h.val + 1)
    (hn : n r = h.val) (hn' : n' = Function.update n r (h'.val + 1))
    {off : Fin 2 → ℕ} (ho : off = ![256 * (back r c).val, 128 * h.val]) {inb : ∀ a, off a + S256x128.size a ≤ S1024x1024.size a}
    {off' : Fin 2 → ℕ} (ho' : off' = ![256 * (back r c).val, 128 * h'.val]) {inb' : ∀ a, off' a + S256x128.size a ≤ S1024x1024.size a}
    {w : S256x128.Idx → Elt F .bf16} (hw' : w = HO I c (back r c) h) {w' : S256x128.Idx → Elt F .bf16} (hw'' : w' = HO I c (back r c) h') :
    hw c cc0_scratch1 fullShare ((Memref.whole cc0_scratch1).view.writes (Elt F) f
        [⟨Rect.unit (s := S1024x1024) off' S256x128.size inb', w'⟩, ⟨Rect.unit (s := S1024x1024) off S256x128.size inb, w⟩])
      ⊢ ATst I c n' :=
  AT_fold I c n' (tiles_put I (tiles_put I hf r h hn ho inb hw' _ rfl) r h' (by rw [Function.update_self, hh]) ho' inb' hw'' n'
    (by rw [hn', Function.update_idem]))

theorem KL_fold (c : Dev nD) (h : Fin 8) (s : Fin 2) {g : cc0_scratch2.ty.Contents (Elt F)} (hg : Slot s g (headOf (I.k c) c h)) :
    kst c s g ⊢ KL I c h s := by
  unfold KL; iintro H; iexists g; isplitr
  · ipureintro; exact hg
  · iexact H

/-- A copy of a head under way. -/
theorem KF_intro (c : Dev nD) (h : Fin 8) (s : Fin 2) {S : Finset main_arg2.ty.Idx} {g : cc0_scratch2.ty.Contents (Elt F)}
    (hg : Slot s g (headOf (I.k c) c h)) :
    Transfers.Flight (countersEmb (nD := nD) (τ := τ) (sig := sig) (Ix := Unit)) (c : Thread nD τ) (.dma (ksem h)) () 65536
      iprop(kst c s g ∗ ((Memref.whole main_arg2).view.loc (c : Thread nD τ) ↦[S]{Transfers.shareTokN fullShare (10 + h.val)} I.k c))
      ⊢ KF I c h s := by
  unfold KF; iintro H; iexists g, S; isplitr
  · ipureintro; exact hg
  · iexact H
theorem VF_intro (c : Dev nD) (h : Fin 8) (s : Fin 2) {S : Finset main_arg3.ty.Idx} {g : cc0_scratch3.ty.Contents (Elt F)}
    (hg : Slot s g (headOf (I.v c) c h)) :
    Transfers.Flight (countersEmb (nD := nD) (τ := τ) (sig := sig) (Ix := Unit)) (c : Thread nD τ) (.dma (vsem h)) () 65536
      iprop(vst c s g ∗ ((Memref.whole main_arg3).view.loc (c : Thread nD τ) ↦[S]{Transfers.shareTokN fullShare (18 + h.val)} I.v c))
      ⊢ VF I c h s := by
  unfold VF; iintro H; iexists g, S; isplitr
  · ipureintro; exact hg
  · iexact H

end Cert.RingProof

end
-- ==== Proof.PartsA.lean ====
/-
# The first parts: the copies start, the neighbours meet, the first rows travel

One statement for each part of the body, about the pieces of the state it touches.
-/
module

public import proofs.«01_k».proof.Proof.Close

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F)

variable (K : Dev nD × Fin 13 → ℕ)

set_option sl_exec.squeezeSlice true in
theorem part1 (c : Dev nD) :
    iprop(KT I c 0 ∗ kfree c 0) ⊢ wp frame (wpE (defs₀ (F := F)) 𝒱₀ c none) Set.univ (atBufs k0_part1)
      (fun r => iprop(KF I c 0 0 ∗ ⌜r.1 = c⌝)) := by
  conv_lhs => unfold KT kfree
  iintro ⟨⟨Hk, HK⟩, ⟨%g, Hg⟩⟩
  sl_exec
  sl_step
  isplitl [HK]
  · iapply (KF_intro I c 0 0 ?_) $$ HK; exact kslot c 0 0 (off1_eq c 0) _ rfl _ g (I.k c)
  · ipureintro; rfl

set_option sl_exec.squeezeSlice true in
theorem part2 (c : Dev nD) (v2 : BitVec 32) :
    iprop(KT I c 1 ∗ VT I c 0 ∗ VT I c 1 ∗ kfree c 1 ∗ vfree c 0 ∗ vfree c 1 ∗ hw c cc0_stg1_0 fullShare (I.wq c)
        ∗ hw c cc0_stg2_0 fullShare (I.wo c) ∗ hany c cc0_scratch6)
      ⊢ wp frame (wpE (defs₀ (F := F)) 𝒱₀ c none) Set.univ (atBufs k0_part2 c v2)
      (fun r => iprop(KF I c 1 1 ∗ VF I c 0 0 ∗ VF I c 1 1 ∗ hw c cc0_stg1_0 fullShare (I.wq c) ∗ hw c cc0_stg2_0 fullShare (I.wo c)
        ∗ hw c cc0_scratch6 fullShare (WQ I c) ∗ ⌜r = I.wo c⌝)) := by
  conv_lhs => unfold KT VT kfree vfree
  iintro ⟨⟨Hk, HK⟩, ⟨Hv0, HV0⟩, ⟨Hv1, HV1⟩, ⟨%g, Hg⟩, ⟨%g0, Hg0⟩, ⟨%g1, Hg1⟩, Hq, Ho, ⟨%w, Hw⟩⟩
  sl_exec
  sl_step
  isplitl [HK]
  · iapply (KF_intro I c 1 1 ?_) $$ HK; exact kslot c 1 1 (off1_eq c 1) _ rfl _ g (I.k c)
  isplitl [HV0]
  · iapply (VF_intro I c 0 0 ?_) $$ HV0; exact vslot c 0 0 (off1_eq c 0) _ rfl _ g0 (I.v c)
  isplitl [HV1]
  · iapply (VF_intro I c 1 1 ?_) $$ HV1; exact vslot c 1 1 (off1_eq c 1) _ rfl _ g1 (I.v c)
  isplitl [Hq]; · iexact Hq
  isplitl [Ho]; · iexact Ho
  isplitl [Hw]
  · iapply (Entails.of_eq (congrArg (hw c cc0_scratch6 fullShare) ?_)) $$ Hw
    exact (put_whole cc0_scratch6 zeros2 _ _ _).trans (congrArg k0_pay1 (Memref.readAt_unit_zero (Elt F) cc0_stg1_0 zeros2 _ _))
  · ipureintro; exact Memref.readAt_unit_zero (Elt F) cc0_stg2_0 zeros2 _ _

set_option sl_exec.squeezeSlice true in
theorem part3 (c : Dev nD) (v2 v13 v24 : BitVec 32) (v59 : Vec F S1024x1024 .f32) :
    iprop(levAts L lv ∗ recs I K ∗ OW c 0 ∗ hany c cc0_scratch7 ∗ dutyTok ER (barCell (prv c)) 0 true
        ∗ dutyTok ER (barCell (nxt c)) 0 false ∗ cred (tallyAt (barCell c) () 2) ∗ atPos ER (barCell c) 0 ∅ 0
        ∗ xany c (back 1 c) ∗ xany c (back 2 c) ∗ xany c (back 3 c) ∗ rany c 0 ∗ rany c 1 ∗ rany c 2 ∗ ⌜v59 = I.wo c⌝)
      ⊢ wp frame (wpE (defs₀ (F := F)) 𝒱₀ c none) Set.univ (atBufs k0_part3 c v2 v13 v24 v59)
      (fun r => iprop(OW c 2 ∗ hw c cc0_scratch7 fullShare (WO I c) ∗ semVal (barCell c) 0 ∗ barPay c)) := by
  conv_lhs => unfold OW
  iintro ⟨#Hlev, #HR, ⟨%W, HO⟩, ⟨%w7, Hw7⟩, Ht, Ht', Hc, Hat, H1, H2, H3, H4, H5, H6, %e⟩
  ihave R1 := (recs_at I K (prv c, 0)) $$ HR
  icases R1 with ⟨#I1, #r1⟩
  ihave R2 := (recs_at I K (nxt c, 0)) $$ HR
  icases R2 with ⟨#I2, #r2⟩
  ihave R3 := (recs_at I K (c, 0)) $$ HR
  icases R3 with ⟨#I3, #r3⟩
  sl_exec
  rw [dev1_eq]
  iapply (Rounds.wp_signal 𝒱₀ ER (ringRd I) (c : Thread nD τ) none (dst := (prv c : Thread nD τ)) (κ := K (prv c, 0))
      (d := true) (by rw [duties_bar]; exact Finset.mem_univ _) ((amount_bar I (prv c) true).trans (by decide)) () (OL c 1) rfl)
    $$ [HO Ht H1 H2 H3 H4 H5 H6]
  · isplitr; · iexact I1
    isplitl [HO]; · iexact HO
    isplitl [Ht]; · iexact Ht
    isplitl [H1 H2 H3 H4 H5 H6]
    · rw [payload_bar_true, ← barPay_prv]
      isplitl [H1]; · iexact H1
      isplitl [H2]; · iexact H2
      isplitl [H3]; · iexact H3
      isplitl [H4]; · iexact H4
      isplitl [H5]; · iexact H5
      iexact H6
    · iexact r1
  iintro HO
  sl_exec
  rw [dev2_eq]
  iapply (Rounds.wp_signal 𝒱₀ ER (ringRd I) (c : Thread nD τ) none (dst := (nxt c : Thread nD τ)) (κ := K (nxt c, 0))
      (d := false) (by rw [duties_bar]; exact Finset.mem_univ _) ((amount_bar I (nxt c) false).trans (by decide)) () (OL c 2) rfl)
    $$ [HO Ht']
  · isplitr; · iexact I2
    isplitl [HO]; · iexact HO
    isplitl [Ht']; · iexact Ht'
    isplitr; · rw [payload_bar_false]; iempintro
    iexact r2
  iintro HO
  sl_exec
  iapply (Rounds.wp_wait_rest_token 𝒱₀ ER (ringRd I) (c : Thread nD τ) none (κ := K (c, 0))
      (wpE_semWait_eq 𝒱₀ (c : Thread nD τ) none Set.univ) (Set.mem_univ _) () (O := OL c 2) (W := W) (R := 0) (m := 0) (T := ∅)
      (by rw [expect_bar]; decide)) $$ [Hc HO Hat]
  · isplitr; · iexact I3
    isplitl [Hc]; · iexact Hc
    isplitl [HO]; · iexact HO
    isplitr
    · iapply (mayWait_of c (.reg barS) 2 (lv_below c _ 2 (by decide))); iexact Hlev
    iexact Hat
  iintro ⟨HO, Hat, -, Hpay⟩
  ihave Hp := (Entails.of_eq (rest_bar I c)) $$ Hpay
  icases Hp with ⟨-, Hp⟩
  imod (Rounds.cell_close ER (ringRd I) (Set.mem_univ (K (c, 0))) (fun h => h) (R := 0 + 1) (duties_later I (barCell c))) $$ [Hat] with Hz
  · isplitr; · iexact I3
    iexact Hat
  sl_step
  sl_step
  isplitl [HO]; · iapply OW_intro; iexact HO
  isplitl [Hw7]
  · iapply (Entails.of_eq (congrArg (hw c cc0_scratch7 fullShare) ?_)) $$ Hw7
    rw [e]; exact put_whole cc0_scratch7 zeros2 _ _ _
  isplitl [Hz]; · iexact Hz
  iexact Hp

set_option sl_exec.squeezeSlice true in
theorem part5 (c : Dev nD) (v2 v13 v125 c4 : BitVec 32) (v126 : BitVec 1) (c1 : BitVec 32) :
    iprop(recs I K ∗ OW c 2 ∗ hw c cc0_stg0_0 fullShare (I.x c) ∗ hw c cc0_scratch6 fullShare (WQ I c)
        ∗ xany c (back 0 c) ∗ xany (nxt c) (back 0 c) ∗ XT c (agS 0) ∗ XT (nxt c) (agR 0))
      ⊢ wp frame (wpE (defs₀ (F := F)) 𝒱₀ c none) Set.univ (atBufs k0_part5 c v2 v13 v125 c4 v126 c1)
      (fun r => iprop(OW c 3 ∗ hw c cc0_stg0_0 fullShare (I.x c) ∗ hw c cc0_scratch6 fullShare (WQ I c) ∗ xsl I c (back 0 c) fullShare.right
        ∗ XC c (agS 0) ∗ ⌜r = QB I c (back 0 c)⌝)) := by
  conv_lhs => unfold OW
  iintro ⟨#HR, ⟨%W, HO⟩, Hx, Hq, Hs, Hd, Ht, Ht'⟩
  sl_exec
  iapply (load_xany c (back 0 c) (off2_eq c)) $$ Hs
  iintro Hs
  simp only [Prog.lift, Prog.bind_op, Prog.bind_ret, Prog.pure_eq_ret, Prog.bind_assoc]
  iapply (store_x I c (back 0 c) (off2_eq c) ?_) $$ Hs
  · exact (congrArg k0_pay3 (Memref.readAt_unit_zero (Elt F) cc0_stg0_0 zeros3 _ _)).trans (by rw [back_zero]; rfl)
  iintro Hs
  ihave Hs := (xsl_halves I c (back 0 c)) $$ Hs
  icases Hs with ⟨Hs, Hs'⟩
  iapply (send_ag I K c _ (dev3_eq c) 0 (off3_eq c 0) rfl rfl W 2 3 rfl) $$ [HO Hs Hd Ht Ht']
  · isplitr; · iexact HR
    isplitl [Hs]; · iexact Hs
    isplitl [Hd]; · iexact Hd
    isplitl [HO]; · iexact HO
    isplitl [Ht]; · iexact Ht
    iexact Ht'
  iintro ⟨Hc, HO⟩
  iapply (load_x I c (back 0 c) fullShare.right (off2_eq c)) $$ Hs'
  iintro Hs'
  sl_exec
  sl_step
  isplitl [HO]; · iapply OW_intro; iexact HO
  isplitl [Hx]; · iexact Hx
  isplitl [Hq]; · iexact Hq
  isplitl [Hs']; · iexact Hs'
  isplitl [Hc]; · iexact Hc
  ipureintro
  exact congrArg (k0_pay4 _) (Memref.readAt_unit_zero (Elt F) cc0_scratch6 zeros2 _ _)

end Cert.RingProof

end
-- ==== Proof.PartsB.lean ====
/-
# The own rows: the first heads land, and their tiles are computed

One statement for each part of the body, about the pieces of the state it touches.
-/
module

public import proofs.«01_k».proof.Proof.Close

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F)

variable (K : Dev nD × Fin 13 → ℕ)

set_option sl_exec.squeezeSlice true in
theorem part6 (c : Dev nD) (v2 : BitVec 32) :
    iprop(levAts L lv ∗ OW c 3 ∗ KF I c 0 0 ∗ VF I c 0 0 ∗ KBst I c 0 ∗ VBst I c 0)
      ⊢ wp frame (wpE (defs₀ (F := F)) 𝒱₀ c none) Set.univ (atBufs k0_part6 c v2)
        (fun r => iprop(OW c 3 ∗ kfree c 0 ∗ vfree c 0 ∗ KZ c 0 ∗ VZ c 0 ∗ KBst I c 1 ∗ VBst I c 1)) := by
  conv_lhs => unfold KF VF KBst VBst OW
  iintro ⟨#Hlev, ⟨%W, HO⟩, ⟨%g, %S, %hg, HK⟩, ⟨%g', %S', %hg', HV⟩, ⟨%f, %hf, Hf⟩, ⟨%f', %hf', Hf'⟩⟩
  have hmw := wait_local (F := F) c 3
  sl_exec
  sl_step
  isplitl [HO]; · iapply OW_intro; iexact HO
  isplitl [HK_dst]; · iapply kfree_intro; iexact HK_dst
  isplitl [HV_dst]; · iapply vfree_intro; iexact HV_dst
  isplitl [HK]; · iexact HK
  isplitl [HV]; · iexact HV
  isplitl [Hf]
  · iapply (KB_put I c 0 rfl hf ?_ ?_) $$ Hf
    · rfl
    · exact land_k I c 0 hg rfl _
  · iapply (VB_put I c 0 rfl hf' ?_ ?_) $$ Hf'
    · rfl
    · exact land_v I c 0 hg' rfl _

set_option sl_exec.squeezeSlice true in
theorem part7 (c : Dev nD) (v2 : BitVec 32) (v160 : FVec F S256x1024 .bf16) :
    iprop(KT I c 2 ∗ VT I c 2 ∗ kfree c 0 ∗ vfree c 0 ∗ KBst I c 1 ∗ VBst I c 1 ∗ ATst I c ![0, 0, 0, 0] ∗ ⌜v160 = QB I c (back 0 c)⌝)
      ⊢ wp frame (wpE (defs₀ (F := F)) 𝒱₀ c none) Set.univ (atBufs k0_part7 c v2 v160)
        (fun r => iprop(KF I c 2 0 ∗ VF I c 2 0 ∗ KBst I c 1 ∗ VBst I c 1 ∗ ATst I c ![1, 0, 0, 0])) := by
  conv_lhs => unfold KT VT kfree vfree KBst VBst ATst
  iintro ⟨⟨Hk, HK⟩, ⟨Hv, HV⟩, ⟨%g, Hg⟩, ⟨%g', Hg'⟩, ⟨%f, %hf, Hf⟩, ⟨%f', %hf', Hf'⟩, ⟨%a, %ha, Ha⟩, %e⟩
  sl_exec
  sl_step
  isplitl [HK]; · iapply (KF_intro I c 2 0 ?_) $$ HK; exact kslot c 2 0 (off1_eq c 2) _ rfl _ g (I.k c)
  isplitl [HV]; · iapply (VF_intro I c 2 0 ?_) $$ HV; exact vslot c 2 0 (off1_eq c 2) _ rfl _ g' (I.v c)
  isplitl [Hf]; · iapply (KB_fold I c 1 hf); iexact Hf
  isplitl [Hf']; · iapply (VB_fold I c 1 hf'); iexact Hf'
  iapply (AT_put I c ha 0 0 rfl (by decide) (off4_eq c) ?_) $$ Ha
  exact tile_eq I c _ 0 e hf hf' (by decide) (by decide) rfl rfl _ _

set_option sl_exec.squeezeSlice true in
theorem part8 (c : Dev nD) (v2 : BitVec 32) :
    iprop(levAts L lv ∗ OW c 3 ∗ KF I c 1 1 ∗ VF I c 1 1 ∗ KBst I c 1 ∗ VBst I c 1)
      ⊢ wp frame (wpE (defs₀ (F := F)) 𝒱₀ c none) Set.univ (atBufs k0_part8 c v2)
      (fun r => iprop(OW c 3 ∗ kfree c 1 ∗ vfree c 1 ∗ KZ c 1 ∗ VZ c 1 ∗ KBst I c 2 ∗ VBst I c 2)) := by
  conv_lhs => unfold KF VF KBst VBst OW
  iintro ⟨#Hlev, ⟨%W, HO⟩, ⟨%g, %S, %hg, HK⟩, ⟨%g', %S', %hg', HV⟩, ⟨%f, %hf, Hf⟩, ⟨%f', %hf', Hf'⟩⟩
  have hmw := wait_local (F := F) c 3
  sl_exec
  sl_step
  isplitl [HO]; · iapply OW_intro; iexact HO
  isplitl [HK_dst]; · iapply kfree_intro; iexact HK_dst
  isplitl [HV_dst]; · iapply vfree_intro; iexact HV_dst
  isplitl [HK]; · iexact HK
  isplitl [HV]; · iexact HV
  isplitl [Hf]
  · iapply (KB_put I c 1 rfl hf ?_ ?_) $$ Hf
    · rfl
    · exact land_k I c 1 hg rfl _
  · iapply (VB_put I c 1 rfl hf' ?_ ?_) $$ Hf'
    · rfl
    · exact land_v I c 1 hg' rfl _

set_option sl_exec.squeezeSlice true in
theorem part9 (c : Dev nD) (v2 : BitVec 32) (v160 : FVec F S256x1024 .bf16) :
    iprop(KT I c 3 ∗ VT I c 3 ∗ kfree c 1 ∗ vfree c 1 ∗ KBst I c 2 ∗ VBst I c 2 ∗ ATst I c ![1, 0, 0, 0] ∗ ⌜v160 = QB I c (back 0 c)⌝)
      ⊢ wp frame (wpE (defs₀ (F := F)) 𝒱₀ c none) Set.univ (atBufs k0_part9 c v2 v160)
      (fun r => iprop(KF I c 3 1 ∗ VF I c 3 1 ∗ KBst I c 2 ∗ VBst I c 2 ∗ ATst I c ![2, 0, 0, 0])) := by
  conv_lhs => unfold KT VT kfree vfree KBst VBst ATst
  iintro ⟨⟨Hk, HK⟩, ⟨Hv, HV⟩, ⟨%g, Hg⟩, ⟨%g', Hg'⟩, ⟨%f, %hf, Hf⟩, ⟨%f', %hf', Hf'⟩, ⟨%a, %ha, Ha⟩, %e⟩
  sl_exec
  sl_step
  isplitl [HK]; · iapply (KF_intro I c 3 1 ?_) $$ HK; exact kslot c 3 1 (off1_eq c 3) _ rfl _ g (I.k c)
  isplitl [HV]; · iapply (VF_intro I c 3 1 ?_) $$ HV; exact vslot c 3 1 (off1_eq c 3) _ rfl _ g' (I.v c)
  isplitl [Hf]; · iapply (KB_fold I c 2 hf); iexact Hf
  isplitl [Hf']; · iapply (VB_fold I c 2 hf'); iexact Hf'
  iapply (AT_put I c ha 0 1 rfl (by decide) (off5_eq c) ?_) $$ Ha
  exact tile_eq I c _ 1 e hf hf' (by decide) (by decide) rfl rfl _ _

set_option sl_exec.squeezeSlice true in
theorem part10 (c : Dev nD) (v2 : BitVec 32) :
    iprop(levAts L lv ∗ OW c 3 ∗ KF I c 2 0 ∗ VF I c 2 0 ∗ KBst I c 2 ∗ VBst I c 2)
      ⊢ wp frame (wpE (defs₀ (F := F)) 𝒱₀ c none) Set.univ (atBufs k0_part10 c v2)
      (fun r => iprop(OW c 3 ∗ kfree c 0 ∗ vfree c 0 ∗ KZ c 2 ∗ VZ c 2 ∗ KBst I c 3 ∗ VBst I c 3)) := by
  conv_lhs => unfold KF VF KBst VBst OW
  iintro ⟨#Hlev, ⟨%W, HO⟩, ⟨%g, %S, %hg, HK⟩, ⟨%g', %S', %hg', HV⟩, ⟨%f, %hf, Hf⟩, ⟨%f', %hf', Hf'⟩⟩
  have hmw := wait_local (F := F) c 3
  sl_exec
  sl_step
  isplitl [HO]; · iapply OW_intro; iexact HO
  isplitl [HK_dst]; · iapply kfree_intro; iexact HK_dst
  isplitl [HV_dst]; · iapply vfree_intro; iexact HV_dst
  isplitl [HK]; · iexact HK
  isplitl [HV]; · iexact HV
  isplitl [Hf]
  · iapply (KB_put I c 2 rfl hf ?_ ?_) $$ Hf
    · rfl
    · exact land_k I c 2 hg rfl _
  · iapply (VB_put I c 2 rfl hf' ?_ ?_) $$ Hf'
    · rfl
    · exact land_v I c 2 hg' rfl _

set_option sl_exec.squeezeSlice true in
theorem part11 (c : Dev nD) (v2 : BitVec 32) (v160 : FVec F S256x1024 .bf16) :
    iprop(KT I c 4 ∗ VT I c 4 ∗ kfree c 0 ∗ vfree c 0 ∗ KBst I c 3 ∗ VBst I c 3 ∗ ATst I c ![2, 0, 0, 0] ∗ ⌜v160 = QB I c (back 0 c)⌝)
      ⊢ wp frame (wpE (defs₀ (F := F)) 𝒱₀ c none) Set.univ (atBufs k0_part11 c v2 v160)
      (fun r => iprop(KF I c 4 0 ∗ VF I c 4 0 ∗ KBst I c 3 ∗ VBst I c 3 ∗ ATst I c ![3, 0, 0, 0])) := by
  conv_lhs => unfold KT VT kfree vfree KBst VBst ATst
  iintro ⟨⟨Hk, HK⟩, ⟨Hv, HV⟩, ⟨%g, Hg⟩, ⟨%g', Hg'⟩, ⟨%f, %hf, Hf⟩, ⟨%f', %hf', Hf'⟩, ⟨%a, %ha, Ha⟩, %e⟩
  sl_exec
  sl_step
  isplitl [HK]; · iapply (KF_intro I c 4 0 ?_) $$ HK; exact kslot c 4 0 (off1_eq c 4) _ rfl _ g (I.k c)
  isplitl [HV]; · iapply (VF_intro I c 4 0 ?_) $$ HV; exact vslot c 4 0 (off1_eq c 4) _ rfl _ g' (I.v c)
  isplitl [Hf]; · iapply (KB_fold I c 3 hf); iexact Hf
  isplitl [Hf']; · iapply (VB_fold I c 3 hf'); iexact Hf'
  iapply (AT_put I c ha 0 2 rfl (by decide) (off6_eq c) ?_) $$ Ha
  exact tile_eq I c _ 2 e hf hf' (by decide) (by decide) rfl rfl _ _

set_option sl_exec.squeezeSlice true in
theorem part12 (c : Dev nD) (v2 : BitVec 32) :
    iprop(levAts L lv ∗ OW c 3 ∗ KF I c 3 1 ∗ VF I c 3 1 ∗ KBst I c 3 ∗ VBst I c 3)
      ⊢ wp frame (wpE (defs₀ (F := F)) 𝒱₀ c none) Set.univ (atBufs k0_part12 c v2)
      (fun r => iprop(OW c 3 ∗ kfree c 1 ∗ vfree c 1 ∗ KZ c 3 ∗ VZ c 3 ∗ KBst I c 4 ∗ VBst I c 4)) := by
  conv_lhs => unfold KF VF KBst VBst OW
  iintro ⟨#Hlev, ⟨%W, HO⟩, ⟨%g, %S, %hg, HK⟩, ⟨%g', %S', %hg', HV⟩, ⟨%f, %hf, Hf⟩, ⟨%f', %hf', Hf'⟩⟩
  have hmw := wait_local (F := F) c 3
  sl_exec
  sl_step
  isplitl [HO]; · iapply OW_intro; iexact HO
  isplitl [HK_dst]; · iapply kfree_intro; iexact HK_dst
  isplitl [HV_dst]; · iapply vfree_intro; iexact HV_dst
  isplitl [HK]; · iexact HK
  isplitl [HV]; · iexact HV
  isplitl [Hf]
  · iapply (KB_put I c 3 rfl hf ?_ ?_) $$ Hf
    · rfl
    · exact land_k I c 3 hg rfl _
  · iapply (VB_put I c 3 rfl hf' ?_ ?_) $$ Hf'
    · rfl
    · exact land_v I c 3 hg' rfl _

set_option sl_exec.squeezeSlice true in
theorem part13 (c : Dev nD) (v2 : BitVec 32) (v160 : FVec F S256x1024 .bf16) :
    iprop(levAts L lv ∗ recs I K ∗ OW c 3 ∗ XC c (agS 0) ∗ XP c (agS 0)
        ∗ KT I c 5 ∗ VT I c 5 ∗ kfree c 1 ∗ vfree c 1 ∗ KBst I c 4 ∗ VBst I c 4 ∗ ATst I c ![3, 0, 0, 0] ∗ ⌜v160 = QB I c (back 0 c)⌝)
      ⊢ wp frame (wpE (defs₀ (F := F)) 𝒱₀ c none) Set.univ (atBufs k0_part13 c v2 v160)
      (fun r => iprop(OW c 3 ∗ XZ c (agS 0) ∗ xsl I c (back 0 c) fullShare.left ∗ KF I c 5 1 ∗ VF I c 5 1 ∗ KBst I c 4 ∗ VBst I c 4 ∗ ATst I c ![4, 0, 0, 0])) := by
  conv_lhs => unfold KT VT kfree vfree KBst VBst ATst OW
  iintro ⟨#Hlev, #HR, ⟨%W, HO⟩, Hc, Hp, ⟨Hk, HK⟩, ⟨Hv, HV⟩, ⟨%g, Hg⟩, ⟨%g', Hg'⟩, ⟨%f, %hf, Hf⟩, ⟨%f', %hf', Hf'⟩, ⟨%a, %ha, Ha⟩, %e⟩
  sl_exec
  iapply (wait_x I K c (agS 0) rfl (credit_x _ _) W 3 (by decide)) $$ [Hc HO Hp]
  · isplitr; · iexact HR
    isplitr; · iexact Hlev
    isplitl [Hc]; · iexact Hc
    isplitl [HO]; · iexact HO
    iexact Hp
  iintro ⟨HO, Hz, Hs⟩
  ihave Hs := (got_agS I c 0 (j := 0) rfl) $$ Hs
  sl_step
  isplitl [HO]; · iapply OW_intro; iexact HO
  isplitl [Hz]; · iexact Hz
  isplitl [Hs]; · iexact Hs
  isplitl [HK]; · iapply (KF_intro I c 5 1 ?_) $$ HK; exact kslot c 5 1 (off1_eq c 5) _ rfl _ g (I.k c)
  isplitl [HV]; · iapply (VF_intro I c 5 1 ?_) $$ HV; exact vslot c 5 1 (off1_eq c 5) _ rfl _ g' (I.v c)
  isplitl [Hf]; · iapply (KB_fold I c 4 hf); iexact Hf
  isplitl [Hf']; · iapply (VB_fold I c 4 hf'); iexact Hf'
  iapply (AT_put I c ha 0 3 rfl (by decide) (off7_eq c) ?_) $$ Ha
  exact tile_eq I c _ 3 e hf hf' (by decide) (by decide) rfl rfl _ _

end Cert.RingProof

end
-- ==== Proof.PartsC.lean ====
/-
# The rows of the device before, while the last heads land

One statement for each part of the body, about the pieces of the state it touches.
-/
module

public import proofs.«01_k».proof.Proof.Close

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F)

variable (K : Dev nD × Fin 13 → ℕ)

set_option sl_exec.squeezeSlice true in
theorem part14 (c : Dev nD) (v2 v13 : BitVec 32) :
    iprop(levAts L lv ∗ recs I K ∗ OW c 3 ∗ XC c (agR 0) ∗ XP c (agR 0) ∗ xany (nxt c) (back 1 c) ∗ XT c (agS 1) ∗ XT (nxt c) (agR 1))
      ⊢ wp frame (wpE (defs₀ (F := F)) 𝒱₀ c none) Set.univ (atBufs k0_part14 c v2 v13)
      (fun r => iprop(OW c 4 ∗ XZ c (agR 0) ∗ xsl I c (back 1 c) fullShare.right
        ∗ XC c (agS 1) ∗ ⌜r.2 = k0_pay17 (XB I (back 1 c))⌝)) := by
  conv_lhs => unfold OW
  iintro ⟨#Hlev, #HR, ⟨%W, HO⟩, Hc, Hp, Hd, Ht, Ht'⟩
  sl_exec
  iapply (wait_x I K c (agR 0) rfl (credit_x _ _) W 3 (by decide)) $$ [Hc HO Hp]
  · isplitr; · iexact HR
    isplitr; · iexact Hlev
    isplitl [Hc]; · iexact Hc
    isplitl [HO]; · iexact HO
    iexact Hp
  iintro ⟨HO, Hz, Hs⟩
  ihave Hs := (got_agR I c 0 (j := 1) rfl) $$ Hs
  ihave Hs := (xsl_halves I c (back 1 c)) $$ Hs
  icases Hs with ⟨Hs, Hs'⟩
  simp only [Prog.lift, Prog.bind_op, Prog.bind_ret, Prog.pure_eq_ret, Prog.bind_assoc]
  iapply (send_ag I K c _ (dev4_eq c) 1 (off3_eq c 1) rfl rfl _ 3 4 rfl) $$ [HO Hs Hd Ht Ht']
  · isplitr; · iexact HR
    isplitl [Hs]; · iexact Hs
    isplitl [Hd]; · iexact Hd
    isplitl [HO]; · iexact HO
    isplitl [Ht]; · iexact Ht
    iexact Ht'
  iintro ⟨Hc, HO⟩
  iapply (load_x I c (back 1 c) fullShare.right (off8_eq c 0)) $$ Hs'
  iintro Hs'
  sl_step
  isplitl [HO]; · iapply OW_intro; iexact HO
  isplitl [Hz]; · iexact Hz
  isplitl [Hs']; · iexact Hs'
  isplitl [Hc]; · iexact Hc
  ipureintro
  rfl

set_option sl_exec.squeezeSlice true in
theorem part15 (c : Dev nD) (v423 : BitVec 32) (v426 : FVec F S256x1024 .bf16) :
    iprop(levAts L lv ∗ OW c 4 ∗ hw c cc0_scratch6 fullShare (WQ I c) ∗ KBst I c 4 ∗ VBst I c 4 ∗ ATst I c ![4, 0, 0, 0] ∗ KF I c 4 0
        ∗ ⌜v426 = k0_pay17 (XB I (back 1 c))⌝)
      ⊢ wp frame (wpE (defs₀ (F := F)) 𝒱₀ c none) Set.univ (atBufs k0_part15 c v423 v426)
      (fun r => iprop(OW c 4 ∗ hw c cc0_scratch6 fullShare (WQ I c) ∗ KBst I c 4 ∗ VBst I c 4 ∗ ATst I c ![4, 1, 0, 0] ∗ KL I c 4 0 ∗ KZ c 4 ∗ ⌜r = QB I c (back 1 c)⌝)) := by
  conv_lhs => unfold KF KBst VBst ATst OW
  iintro ⟨#Hlev, ⟨%W, HO⟩, Hq, ⟨%f, %hf, Hf⟩, ⟨%f', %hf', Hf'⟩, ⟨%a, %ha, Ha⟩, ⟨%g, %S, %hg, HK⟩, %e⟩
  have hmw := wait_local (F := F) c 4
  have hq := fun inb => (congrArg₂ k0_pay18 e (rd_wq I c inb) : _ = QB I c (back 1 c))
  sl_exec
  sl_step
  isplitl [HO]; · iapply OW_intro; iexact HO
  isplitl [Hq]; · iexact Hq
  isplitl [Hf]; · iapply (KB_fold I c 4 hf); iexact Hf
  isplitl [Hf']; · iapply (VB_fold I c 4 hf'); iexact Hf'
  isplitl [Ha]
  · iapply (AT_put I c ha 1 0 rfl (by decide) ?_ ?_) $$ Ha
    · exact off9_eq c 0
    · exact tile_eq I c _ 0 (hq _) hf hf' (by decide) (by decide) rfl rfl _ _
  isplitl [HK_dst]; · iapply (KL_fold I c 4 0 hg); iexact HK_dst
  isplitl [HK]; · iexact HK
  ipureintro; exact hq _

set_option sl_exec.squeezeSlice true in
theorem part16 (c : Dev nD) (v2 : BitVec 32) :
    iprop(levAts L lv ∗ OW c 4 ∗ KL I c 4 0 ∗ VF I c 4 0 ∗ KBst I c 4 ∗ VBst I c 4 ∗ KT I c 6)
      ⊢ wp frame (wpE (defs₀ (F := F)) 𝒱₀ c none) Set.univ (atBufs k0_part16 c v2)
      (fun r => iprop(OW c 4 ∗ vfree c 0 ∗ VZ c 4 ∗ KF I c 6 0 ∗ KBst I c 5 ∗ VBst I c 5)) := by
  conv_lhs => unfold KL VF KBst VBst OW KT
  iintro ⟨#Hlev, ⟨%W, HO⟩, ⟨%g, %hg, Hg⟩, ⟨%g', %S', %hg', HV⟩, ⟨%f, %hf, Hf⟩, ⟨%f', %hf', Hf'⟩, ⟨Hk, HK⟩⟩
  have hmw := wait_local (F := F) c 4
  sl_exec
  sl_step
  isplitl [HO]; · iapply OW_intro; iexact HO
  isplitl [HV_dst]; · iapply vfree_intro; iexact HV_dst
  isplitl [HV]; · iexact HV
  isplitl [HK]; · iapply (KF_intro I c 6 0 ?_) $$ HK; exact kslot c 6 0 (off1_eq c 6) _ rfl _ g (I.k c)
  isplitl [Hf]
  · iapply (KB_put I c 4 rfl hf ?_ ?_) $$ Hf
    · rfl
    · exact land_k I c 4 hg rfl _
  · iapply (VB_put I c 4 rfl hf' ?_ ?_) $$ Hf'
    · rfl
    · exact land_v I c 4 hg' rfl _

set_option sl_exec.squeezeSlice true in
theorem part17 (c : Dev nD) (v423 : BitVec 32) (v431 : FVec F S256x1024 .bf16) :
    iprop(levAts L lv ∗ OW c 4 ∗ VT I c 6 ∗ vfree c 0 ∗ KBst I c 5 ∗ VBst I c 5 ∗ ATst I c ![4, 1, 0, 0] ∗ KF I c 5 1 ∗ ⌜v431 = QB I c (back 1 c)⌝)
      ⊢ wp frame (wpE (defs₀ (F := F)) 𝒱₀ c none) Set.univ (atBufs k0_part17 c v423 v431)
      (fun r => iprop(OW c 4 ∗ VF I c 6 0 ∗ KBst I c 5 ∗ VBst I c 5 ∗ ATst I c ![4, 2, 0, 0] ∗ KL I c 5 1 ∗ KZ c 5)) := by
  conv_lhs => unfold VT vfree KF KBst VBst ATst OW
  iintro ⟨#Hlev, ⟨%W, HO⟩, ⟨Hv, HV⟩, ⟨%g', Hg'⟩, ⟨%f, %hf, Hf⟩, ⟨%f', %hf', Hf'⟩, ⟨%a, %ha, Ha⟩, ⟨%g, %S, %hg, HK⟩, %e⟩
  have hmw := wait_local (F := F) c 4
  sl_exec
  sl_step
  isplitl [HO]; · iapply OW_intro; iexact HO
  isplitl [HV]; · iapply (VF_intro I c 6 0 ?_) $$ HV; exact vslot c 6 0 (off1_eq c 6) _ rfl _ g' (I.v c)
  isplitl [Hf]; · iapply (KB_fold I c 5 hf); iexact Hf
  isplitl [Hf']; · iapply (VB_fold I c 5 hf'); iexact Hf'
  isplitl [Ha]
  · iapply (AT_put I c ha 1 1 rfl (by decide) ?_ ?_) $$ Ha
    · exact off10_eq c 0
    · exact tile_eq I c _ 1 e hf hf' (by decide) (by decide) rfl rfl _ _
  isplitl [HK_dst]; · iapply (KL_fold I c 5 1 hg); iexact HK_dst
  iexact HK

set_option sl_exec.squeezeSlice true in
theorem part18 (c : Dev nD) (v2 : BitVec 32) :
    iprop(levAts L lv ∗ OW c 4 ∗ KL I c 5 1 ∗ VF I c 5 1 ∗ KBst I c 5 ∗ VBst I c 5 ∗ KT I c 7)
      ⊢ wp frame (wpE (defs₀ (F := F)) 𝒱₀ c none) Set.univ (atBufs k0_part18 c v2)
      (fun r => iprop(OW c 4 ∗ vfree c 1 ∗ VZ c 5 ∗ KF I c 7 1 ∗ KBst I c 6 ∗ VBst I c 6)) := by
  conv_lhs => unfold KL VF KBst VBst OW KT
  iintro ⟨#Hlev, ⟨%W, HO⟩, ⟨%g, %hg, Hg⟩, ⟨%g', %S', %hg', HV⟩, ⟨%f, %hf, Hf⟩, ⟨%f', %hf', Hf'⟩, ⟨Hk, HK⟩⟩
  have hmw := wait_local (F := F) c 4
  sl_exec
  sl_step
  isplitl [HO]; · iapply OW_intro; iexact HO
  isplitl [HV_dst]; · iapply vfree_intro; iexact HV_dst
  isplitl [HV]; · iexact HV
  isplitl [HK]; · iapply (KF_intro I c 7 1 ?_) $$ HK; exact kslot c 7 1 (off1_eq c 7) _ rfl _ g (I.k c)
  isplitl [Hf]
  · iapply (KB_put I c 5 rfl hf ?_ ?_) $$ Hf
    · rfl
    · exact land_k I c 5 hg rfl _
  · iapply (VB_put I c 5 rfl hf' ?_ ?_) $$ Hf'
    · rfl
    · exact land_v I c 5 hg' rfl _

set_option sl_exec.squeezeSlice true in
theorem part19 (c : Dev nD) (v423 : BitVec 32) (v431 : FVec F S256x1024 .bf16) :
    iprop(levAts L lv ∗ OW c 4 ∗ VT I c 7 ∗ vfree c 1 ∗ KBst I c 6 ∗ VBst I c 6 ∗ ATst I c ![4, 2, 0, 0] ∗ KF I c 6 0 ∗ ⌜v431 = QB I c (back 1 c)⌝)
      ⊢ wp frame (wpE (defs₀ (F := F)) 𝒱₀ c none) Set.univ (atBufs k0_part19 c v423 v431)
      (fun r => iprop(OW c 4 ∗ VF I c 7 1 ∗ KBst I c 6 ∗ VBst I c 6 ∗ ATst I c ![4, 3, 0, 0] ∗ KL I c 6 0 ∗ KZ c 6)) := by
  conv_lhs => unfold VT vfree KF KBst VBst ATst OW
  iintro ⟨#Hlev, ⟨%W, HO⟩, ⟨Hv, HV⟩, ⟨%g', Hg'⟩, ⟨%f, %hf, Hf⟩, ⟨%f', %hf', Hf'⟩, ⟨%a, %ha, Ha⟩, ⟨%g, %S, %hg, HK⟩, %e⟩
  have hmw := wait_local (F := F) c 4
  sl_exec
  sl_step
  isplitl [HO]; · iapply OW_intro; iexact HO
  isplitl [HV]; · iapply (VF_intro I c 7 1 ?_) $$ HV; exact vslot c 7 1 (off1_eq c 7) _ rfl _ g' (I.v c)
  isplitl [Hf]; · iapply (KB_fold I c 6 hf); iexact Hf
  isplitl [Hf']; · iapply (VB_fold I c 6 hf'); iexact Hf'
  isplitl [Ha]
  · iapply (AT_put I c ha 1 2 rfl (by decide) ?_ ?_) $$ Ha
    · exact off11_eq c 0
    · exact tile_eq I c _ 2 e hf hf' (by decide) (by decide) rfl rfl _ _
  isplitl [HK_dst]; · iapply (KL_fold I c 6 0 hg); iexact HK_dst
  iexact HK

set_option sl_exec.squeezeSlice true in
theorem part20 (c : Dev nD) (v423 : BitVec 32) (v431 : FVec F S256x1024 .bf16) :
    iprop(levAts L lv ∗ OW c 4 ∗ KL I c 6 0 ∗ VF I c 6 0 ∗ KBst I c 6 ∗ VBst I c 6 ∗ ATst I c ![4, 3, 0, 0] ∗ ⌜v431 = QB I c (back 1 c)⌝)
      ⊢ wp frame (wpE (defs₀ (F := F)) 𝒱₀ c none) Set.univ (atBufs k0_part20 c v423 v431)
      (fun r => iprop(OW c 4 ∗ kfree c 0 ∗ vfree c 0 ∗ VZ c 6 ∗ KBst I c 7 ∗ VBst I c 7 ∗ ATst I c ![4, 4, 0, 0])) := by
  conv_lhs => unfold KL VF KBst VBst ATst OW
  iintro ⟨#Hlev, ⟨%W, HO⟩, ⟨%g, %hg, Hg⟩, ⟨%g', %S', %hg', HV⟩, ⟨%f, %hf, Hf⟩, ⟨%f', %hf', Hf'⟩, ⟨%a, %ha, Ha⟩, %e⟩
  have hmw := wait_local (F := F) c 4
  sl_exec
  sl_step
  isplitl [HO]; · iapply OW_intro; iexact HO
  isplitl [Hg]; · iapply kfree_intro; iexact Hg
  isplitl [HV_dst]; · iapply vfree_intro; iexact HV_dst
  isplitl [HV]; · iexact HV
  isplitl [Hf]
  · iapply (KB_put I c 6 rfl hf ?_ ?_) $$ Hf
    · rfl
    · exact land_k I c 6 hg rfl _
  isplitl [Hf']
  · iapply (VB_put I c 6 rfl hf' ?_ ?_) $$ Hf'
    · rfl
    · exact land_v I c 6 hg' rfl _
  iapply (AT_put I c ha 1 3 rfl (by decide) ?_ ?_) $$ Ha
  · exact off12_eq c 0
  · exact tile_eq I c _ 3 e hf hf' (by decide) (by decide) rfl rfl _ _

set_option sl_exec.squeezeSlice true in
theorem part21 (c : Dev nD) (v160 : FVec F S256x1024 .bf16) :
    iprop(levAts L lv ∗ OW c 4 ∗ KF I c 7 1 ∗ VF I c 7 1 ∗ KBst I c 7 ∗ VBst I c 7 ∗ ⌜v160 = QB I c (back 0 c)⌝)
      ⊢ wp frame (wpE (defs₀ (F := F)) 𝒱₀ c none) Set.univ (atBufs k0_part21 c v160)
      (fun r => iprop(OW c 4 ∗ kfree c 1 ∗ vfree c 1 ∗ KZ c 7 ∗ VZ c 7 ∗ KBst I c 8 ∗ VBst I c 8 ∗ ⌜r = k0_pay31 (QB I c (back 0 c)) (KB I c 4)⌝)) := by
  conv_lhs => unfold KF VF KBst VBst OW
  iintro ⟨#Hlev, ⟨%W, HO⟩, ⟨%g, %S, %hg, HK⟩, ⟨%g', %S', %hg', HV⟩, ⟨%f, %hf, Hf⟩, ⟨%f', %hf', Hf'⟩, %e⟩
  have hmw := wait_local (F := F) c 4
  sl_exec
  sl_step
  isplitl [HO]; · iapply OW_intro; iexact HO
  isplitl [HK_dst]; · iapply kfree_intro; iexact HK_dst
  isplitl [HV_dst]; · iapply vfree_intro; iexact HV_dst
  isplitl [HK]; · iexact HK
  isplitl [HV]; · iexact HV
  isplitl [Hf]
  · iapply (KB_put I c 7 rfl hf ?_ ?_) $$ Hf
    · rfl
    · exact land_k I c 7 hg rfl _
  isplitl [Hf']
  · iapply (VB_put I c 7 rfl hf' ?_ ?_) $$ Hf'
    · rfl
    · exact land_v I c 7 hg' rfl _
  ipureintro
  exact congrArg₂ k0_pay31 e (kbf_get hf 4 (by decide) rfl _)

end Cert.RingProof

end
-- ==== Proof.PartsD.lean ====
/-
# The last heads of the first two row blocks, and the first scatter hop

One statement for each part of the body, about the pieces of the state it touches.
-/
module

public import proofs.«01_k».proof.Proof.Close

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F)

variable (K : Dev nD × Fin 13 → ℕ)

set_option sl_exec.squeezeSlice true in
theorem part22 (c : Dev nD) (v2 : BitVec 32) (v160 : FVec F S256x1024 .bf16) (v635 : FVec F S256x4096 .f32) :
    iprop(KBst I c 8 ∗ VBst I c 8 ∗ ATst I c ![4, 4, 0, 0] ∗ ⌜v160 = QB I c (back 0 c)⌝ ∗ ⌜v635 = k0_pay31 (QB I c (back 0 c)) (KB I c 4)⌝)
      ⊢ wp frame (wpE (defs₀ (F := F)) 𝒱₀ c none) Set.univ (atBufs k0_part22 c v2 v160 v635)
      (fun r => iprop(KBst I c 8 ∗ VBst I c 8 ∗ ATst I c ![6, 4, 0, 0] ∗ ⌜r.1 = k0_pay34 (QB I c (back 0 c))⌝ ∗ ⌜r.2 = k0_pay35 (KB I c 6)⌝)) := by
  conv_lhs => unfold KBst VBst ATst
  iintro ⟨⟨%f, %hf, Hf⟩, ⟨%f', %hf', Hf'⟩, ⟨%a, %ha, Ha⟩, %e, %e1⟩
  sl_exec
  sl_step
  isplitl [Hf]; · iapply (KB_fold I c 8 hf); iexact Hf
  isplitl [Hf']; · iapply (VB_fold I c 8 hf'); iexact Hf'
  isplitl [Ha]
  · iapply (AT_put2 I c ha 0 4 5 rfl rfl (by decide) ?_ ?_ ?_ ?_) $$ Ha
    · exact off13_eq c
    · exact off14_eq c
    · exact congrArg₂ k0_pay32 e1 (vbf_get hf' 4 (by decide) rfl _)
    · exact tile_eq I c _ 5 e hf hf' (by decide) (by decide) rfl rfl _ _
  isplitr; · ipureintro; exact congrArg k0_pay34 e
  ipureintro; exact congrArg k0_pay35 (kbf_get hf 6 (by decide) rfl _)

set_option sl_exec.squeezeSlice true in
theorem part23 (c : Dev nD) (v2 : BitVec 32) (v160 : FVec F S256x1024 .bf16) (v431 : FVec F S256x1024 .bf16) (v670 : FVec F S256x128 .bf16) (v672 : FVec F S4096x128 .bf16) :
    iprop(KBst I c 8 ∗ VBst I c 8 ∗ ATst I c ![6, 4, 0, 0] ∗ ⌜v160 = QB I c (back 0 c)⌝ ∗ ⌜v431 = QB I c (back 1 c)⌝ ∗ ⌜v670 = k0_pay34 (QB I c (back 0 c))⌝ ∗ ⌜v672 = k0_pay35 (KB I c 6)⌝)
      ⊢ wp frame (wpE (defs₀ (F := F)) 𝒱₀ c none) Set.univ (atBufs k0_part23 c v2 v160 v431 v670 v672)
      (fun r => iprop(KBst I c 8 ∗ VBst I c 8 ∗ ATst I c ![8, 4, 0, 0] ∗ ⌜r = k0_pay38 (QB I c (back 1 c))⌝)) := by
  conv_lhs => unfold KBst VBst ATst
  iintro ⟨⟨%f, %hf, Hf⟩, ⟨%f', %hf', Hf'⟩, ⟨%a, %ha, Ha⟩, %e, %e1, %e2, %e3⟩
  sl_exec
  sl_step
  isplitl [Hf]; · iapply (KB_fold I c 8 hf); iexact Hf
  isplitl [Hf']; · iapply (VB_fold I c 8 hf'); iexact Hf'
  isplitl [Ha]
  · iapply (AT_put2 I c ha 0 6 7 rfl rfl (by decide) ?_ ?_ ?_ ?_) $$ Ha
    · exact off15_eq c
    · exact off16_eq c
    · exact congr (congrArg₂ k0_pay36 e2 e3) (vbf_get hf' 6 (by decide) rfl _)
    · exact tile_eq I c _ 7 e hf hf' (by decide) (by decide) rfl rfl _ _
  ipureintro; exact congrArg k0_pay38 e1

set_option sl_exec.squeezeSlice true in
theorem part24 (c : Dev nD) (v423 : BitVec 32) (v431 : FVec F S256x1024 .bf16) (v708 : FVec F S256x128 .bf16) :
    iprop(KBst I c 8 ∗ VBst I c 8 ∗ ATst I c ![8, 4, 0, 0] ∗ ⌜v431 = QB I c (back 1 c)⌝ ∗ ⌜v708 = k0_pay38 (QB I c (back 1 c))⌝)
      ⊢ wp frame (wpE (defs₀ (F := F)) 𝒱₀ c none) Set.univ (atBufs k0_part24 c v423 v431 v708)
      (fun r => iprop(KBst I c 8 ∗ VBst I c 8 ∗ ATst I c ![8, 6, 0, 0] ∗ ⌜r = k0_pay41 (QB I c (back 1 c))⌝)) := by
  conv_lhs => unfold KBst VBst ATst
  iintro ⟨⟨%f, %hf, Hf⟩, ⟨%f', %hf', Hf'⟩, ⟨%a, %ha, Ha⟩, %e, %e1⟩
  sl_exec
  sl_step
  isplitl [Hf]; · iapply (KB_fold I c 8 hf); iexact Hf
  isplitl [Hf']; · iapply (VB_fold I c 8 hf'); iexact Hf'
  isplitl [Ha]
  · iapply (AT_put2 I c ha 1 4 5 rfl rfl (by decide) ?_ ?_ ?_ ?_) $$ Ha
    · exact off17_eq c 0
    · exact off18_eq c 0
    · exact congr (congrArg₂ k0_pay39 e1 (kbf_get hf 4 (by decide) rfl _)) (vbf_get hf' 4 (by decide) rfl _)
    · exact tile_eq I c _ 5 e hf hf' (by decide) (by decide) rfl rfl _ _
  ipureintro; exact congrArg k0_pay41 e

set_option sl_exec.squeezeSlice true in
theorem part25 (c : Dev nD) (v423 : BitVec 32) (v431 : FVec F S256x1024 .bf16) (v746 : FVec F S256x128 .bf16) :
    iprop(KBst I c 8 ∗ VBst I c 8 ∗ ATst I c ![8, 6, 0, 0] ∗ ⌜v431 = QB I c (back 1 c)⌝ ∗ ⌜v746 = k0_pay41 (QB I c (back 1 c))⌝)
      ⊢ wp frame (wpE (defs₀ (F := F)) 𝒱₀ c none) Set.univ (atBufs k0_part25 c v423 v431 v746)
      (fun r => iprop(KBst I c 8 ∗ VBst I c 8 ∗ ATst I c ![8, 8, 0, 0])) := by
  conv_lhs => unfold KBst VBst ATst
  iintro ⟨⟨%f, %hf, Hf⟩, ⟨%f', %hf', Hf'⟩, ⟨%a, %ha, Ha⟩, %e, %e1⟩
  sl_exec
  sl_step
  isplitl [Hf]; · iapply (KB_fold I c 8 hf); iexact Hf
  isplitl [Hf']; · iapply (VB_fold I c 8 hf'); iexact Hf'
  iapply (AT_put2 I c ha 1 6 7 rfl rfl (by decide) ?_ ?_ ?_ ?_) $$ Ha
  · exact off19_eq c 0
  · exact off20_eq c 0
  · exact congr (congrArg₂ k0_pay42 e1 (kbf_get hf 6 (by decide) rfl _)) (vbf_get hf' 6 (by decide) rfl _)
  · exact tile_eq I c _ 7 e hf hf' (by decide) (by decide) rfl rfl _ _

set_option sl_exec.squeezeSlice true in
theorem part26 (c : Dev nD) (v13 v423 : BitVec 32) :
    iprop(levAts L lv ∗ recs I K ∗ OW c 4 ∗ ATst I c ![8, 8, 0, 0] ∗ hw c cc0_scratch7 fullShare (WO I c) ∗ sany c 0 ∗ rany (nxt c) 0 ∗ XT c (rsS 0) ∗ XT (nxt c) (rsR 0)
        ∗ XC c (agS 1) ∗ XP c (agS 1))
      ⊢ wp frame (wpE (defs₀ (F := F)) 𝒱₀ c none) Set.univ (atBufs k0_part26 c v13 v423)
      (fun r => iprop(OW c 5 ∗ ATst I c ![8, 8, 0, 0] ∗ hw c cc0_scratch7 fullShare (WO I c) ∗ XC c (rsS 0) ∗ XZ c (agS 1) ∗ xsl I c (back 1 c) fullShare.left)) := by
  conv_lhs => unfold ATst OW
  iintro ⟨#Hlev, #HR, ⟨%W, HO⟩, ⟨%a, %ha, Ha⟩, Hw, Hs, Hd, Ht, Ht', Hc, Hp⟩
  sl_exec
  iapply (load_sany c 0 (o := ![0, 0, 0]) rfl) $$ Hs
  iintro Hs
  simp only [Prog.lift, Prog.bind_op, Prog.bind_ret, Prog.pure_eq_ret, Prog.bind_assoc]
  iapply (store_s I c 0 (o := ![0, 0, 0]) rfl ?_) $$ Hs
  · exact congrArg₂ k0_pay44 (rows_get I ha 1 rfl (off21_eq c 0) _) (rd_wo I c _)
  iintro Hs
  iapply (send_rs I K c _ (dev5_eq c) 0 (o := ![0, 0, 0]) rfl rfl rfl _ 4 5 rfl) $$ [HO Hs Hd Ht Ht']
  · isplitr; · iexact HR
    isplitl [Hs]; · iexact Hs
    isplitl [Hd]; · iexact Hd
    isplitl [HO]; · iexact HO
    isplitl [Ht]; · iexact Ht
    iexact Ht'
  iintro ⟨Hc', HO⟩
  iapply (wait_x I K c (agS 1) rfl (credit_x _ _) _ 5 (by decide)) $$ [Hc HO Hp]
  · isplitr; · iexact HR
    isplitr; · iexact Hlev
    isplitl [Hc]; · iexact Hc
    isplitl [HO]; · iexact HO
    iexact Hp
  iintro ⟨HO, Hz, Hs⟩
  ihave Hs := (got_agS I c 1 (j := 1) rfl) $$ Hs
  sl_step
  isplitl [HO]; · iapply OW_intro; iexact HO
  isplitl [Ha]; · iapply (AT_fold I c _ ha); iexact Ha
  isplitl [Hw]; · iexact Hw
  isplitl [Hc']; · iexact Hc'
  isplitl [Hz]; · iexact Hz
  iexact Hs

end Cert.RingProof

end
-- ==== Proof.PartsE.lean ====
/-
# The rows from two places back, and the second scatter hop

One statement for each part of the body, about the pieces of the state it touches.
-/
module

public import proofs.«01_k».proof.Proof.Close

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F)

variable (K : Dev nD × Fin 13 → ℕ)

set_option sl_exec.squeezeSlice true in
theorem part27 (c : Dev nD) (v2 v13 : BitVec 32) :
    iprop(levAts L lv ∗ recs I K ∗ OW c 5 ∗ XC c (agR 1) ∗ XP c (agR 1) ∗ xany (nxt c) (back 2 c) ∗ XT c (agS 2) ∗ XT (nxt c) (agR 2) ∗ hw c cc0_scratch6 fullShare (WQ I c))
      ⊢ wp frame (wpE (defs₀ (F := F)) 𝒱₀ c none) Set.univ (atBufs k0_part27 c v2 v13)
      (fun r => iprop(OW c 6 ∗ XZ c (agR 1) ∗ xsl I c (back 2 c) fullShare.right ∗ XC c (agS 2) ∗ hw c cc0_scratch6 fullShare (WQ I c) ∗ ⌜r.2 = k0_pay45 (XB I (back 2 c)) (WQ I c)⌝)) := by
  conv_lhs => unfold OW
  iintro ⟨#Hlev, #HR, ⟨%W, HO⟩, Hc, Hp, Hd, Ht, Ht', Hq⟩
  sl_exec
  iapply (wait_x I K c (agR 1) rfl (credit_x _ _) W 5 (by decide)) $$ [Hc HO Hp]
  · isplitr; · iexact HR
    isplitr; · iexact Hlev
    isplitl [Hc]; · iexact Hc
    isplitl [HO]; · iexact HO
    iexact Hp
  iintro ⟨HO, Hz, Hs⟩
  ihave Hs := (got_agR I c 1 (j := 2) rfl) $$ Hs
  ihave Hs := (xsl_halves I c (back 2 c)) $$ Hs
  icases Hs with ⟨Hs, Hs'⟩
  simp only [Prog.lift, Prog.bind_op, Prog.bind_ret, Prog.pure_eq_ret, Prog.bind_assoc]
  iapply (send_ag I K c _ (dev6_eq c) 2 (off3_eq c 2) rfl rfl _ 5 6 rfl) $$ [HO Hs Hd Ht Ht']
  · isplitr; · iexact HR
    isplitl [Hs]; · iexact Hs
    isplitl [Hd]; · iexact Hd
    isplitl [HO]; · iexact HO
    isplitl [Ht]; · iexact Ht
    iexact Ht'
  iintro ⟨Hc, HO⟩
  iapply (load_x I c (back 2 c) fullShare.right (off8_eq c 1)) $$ Hs'
  iintro Hs'
  sl_exec
  sl_step
  isplitl [HO]; · iapply OW_intro; iexact HO
  isplitl [Hz]; · iexact Hz
  isplitl [Hs']; · iexact Hs'
  isplitl [Hc]; · iexact Hc
  isplitl [Hq]; · iexact Hq
  ipureintro; exact congrArg (k0_pay45 _) (rd_wq I c _)

/-- The places of two stores as vectors. -/
local instance (c : Dev nD) : ClosedOff (k0_off9 c 2#32) := ⟨![256 * (back 2 c).val, 0], off9_eq c 1⟩
local instance (c : Dev nD) : ClosedOff (k0_off10 c 2#32) := ⟨![256 * (back 2 c).val, 128], off10_eq c 1⟩

set_option sl_exec.squeezeSlice true in
theorem part28 (c : Dev nD) (v837 : BitVec 32) (v844 : FVec F S256x1024 .f32) :
    iprop(KBst I c 8 ∗ VBst I c 8 ∗ ATst I c ![8, 8, 0, 0] ∗ ⌜v844 = k0_pay45 (XB I (back 2 c)) (WQ I c)⌝)
      ⊢ wp frame (wpE (defs₀ (F := F)) 𝒱₀ c none) Set.univ (atBufs k0_part28 c v837 v844)
      (fun r => iprop(KBst I c 8 ∗ VBst I c 8 ∗ ATst I c ![8, 8, 1, 0] ∗ ⌜r.1 = QB I c (back 2 c)⌝ ∗ ⌜r.2.1 = k0_pay48 (k0_pay45 (XB I (back 2 c)) (WQ I c)) (KB I c 1) (VB I c 1)⌝)) := by
  conv_lhs => unfold KBst VBst ATst
  iintro ⟨⟨%f, %hf, Hf⟩, ⟨%f', %hf', Hf'⟩, ⟨%a, %ha, Ha⟩, %e⟩
  sl_exec
  sl_step
  isplitl [Hf]; · iapply (KB_fold I c 8 hf); iexact Hf
  isplitl [Hf']; · iapply (VB_fold I c 8 hf'); iexact Hf'
  isplitl [Ha]
  · iapply (AT_put I c ha 2 0 rfl (by decide) ?_ ?_) $$ Ha
    · exact off9_eq c 1
    · exact congr (congrArg₂ k0_pay47 e (kbf_get hf 0 (by decide) rfl _)) (vbf_get hf' 0 (by decide) rfl _)
  isplitr; · ipureintro; exact congrArg k0_pay46 e
  ipureintro; exact congr (congrArg₂ k0_pay48 e (kbf_get hf 1 (by decide) rfl _)) (vbf_get hf' 1 (by decide) rfl _)

set_option sl_exec.squeezeSlice true in
theorem part29 (c : Dev nD) (v837 : BitVec 32) (v845 : FVec F S256x1024 .bf16) (v878 : FVec F S256x128 .bf16) (v881 : Vec F S256x128 .bf16) :
    iprop(KBst I c 8 ∗ VBst I c 8 ∗ ATst I c ![8, 8, 1, 0] ∗ ⌜v845 = QB I c (back 2 c)⌝ ∗ ⌜v878 = k0_pay48 (k0_pay45 (XB I (back 2 c)) (WQ I c)) (KB I c 1) (VB I c 1)⌝)
      ⊢ wp frame (wpE (defs₀ (F := F)) 𝒱₀ c none) Set.univ (atBufs k0_part29 c v837 v845 v878 v881)
      (fun r => iprop(KBst I c 8 ∗ VBst I c 8 ∗ ATst I c ![8, 8, 3, 0] ∗ ⌜r = k0_pay51 (QB I c (back 2 c)) (KB I c 3) (VB I c 3)⌝)) := by
  conv_lhs => unfold KBst VBst ATst
  iintro ⟨⟨%f, %hf, Hf⟩, ⟨%f', %hf', Hf'⟩, ⟨%a, %ha, Ha⟩, %e, %e1⟩
  sl_exec
  sl_step
  isplitl [Hf]; · iapply (KB_fold I c 8 hf); iexact Hf
  isplitl [Hf']; · iapply (VB_fold I c 8 hf'); iexact Hf'
  isplitl [Ha]
  · iapply (AT_put2 I c ha 2 1 2 rfl rfl (by decide) ?_ ?_ ?_ ?_) $$ Ha
    · exact off10_eq c 1
    · exact off11_eq c 1
    · exact congrArg k0_pay49 e1
    · exact tile_eq I c _ 2 e hf hf' (by decide) (by decide) rfl rfl _ _
  ipureintro; exact congr (congrArg₂ k0_pay51 e (kbf_get hf 3 (by decide) rfl _)) (vbf_get hf' 3 (by decide) rfl _)

set_option sl_exec.squeezeSlice true in
theorem part30 (c : Dev nD) (v837 : BitVec 32) (v845 : FVec F S256x1024 .bf16) (v916 : FVec F S256x128 .bf16) :
    iprop(KBst I c 8 ∗ VBst I c 8 ∗ ATst I c ![8, 8, 3, 0] ∗ ⌜v845 = QB I c (back 2 c)⌝ ∗ ⌜v916 = k0_pay51 (QB I c (back 2 c)) (KB I c 3) (VB I c 3)⌝)
      ⊢ wp frame (wpE (defs₀ (F := F)) 𝒱₀ c none) Set.univ (atBufs k0_part30 c v837 v845 v916)
      (fun r => iprop(KBst I c 8 ∗ VBst I c 8 ∗ ATst I c ![8, 8, 5, 0] ∗ ⌜r.1 = k0_pay54 (QB I c (back 2 c)) (KB I c 5) (VB I c 5)⌝)) := by
  conv_lhs => unfold KBst VBst ATst
  iintro ⟨⟨%f, %hf, Hf⟩, ⟨%f', %hf', Hf'⟩, ⟨%a, %ha, Ha⟩, %e, %e1⟩
  sl_exec
  sl_step
  isplitl [Hf]; · iapply (KB_fold I c 8 hf); iexact Hf
  isplitl [Hf']; · iapply (VB_fold I c 8 hf'); iexact Hf'
  isplitl [Ha]
  · iapply (AT_put2 I c ha 2 3 4 rfl rfl (by decide) ?_ ?_ ?_ ?_) $$ Ha
    · exact off12_eq c 1
    · exact off17_eq c 1
    · exact congrArg k0_pay52 e1
    · exact tile_eq I c _ 4 e hf hf' (by decide) (by decide) rfl rfl _ _
  ipureintro; exact congr (congrArg₂ k0_pay54 e (kbf_get hf 5 (by decide) rfl _)) (vbf_get hf' 5 (by decide) rfl _)

set_option sl_exec.squeezeSlice true in
theorem part31 (c : Dev nD) (v837 : BitVec 32) (v845 : FVec F S256x1024 .bf16) (v954 : FVec F S256x128 .bf16) (c256 : BitVec 32) :
    iprop(KBst I c 8 ∗ VBst I c 8 ∗ ATst I c ![8, 8, 5, 0] ∗ ⌜v845 = QB I c (back 2 c)⌝ ∗ ⌜v954 = k0_pay54 (QB I c (back 2 c)) (KB I c 5) (VB I c 5)⌝)
      ⊢ wp frame (wpE (defs₀ (F := F)) 𝒱₀ c none) Set.univ (atBufs k0_part31 c v837 v845 v954 c256)
      (fun r => iprop(KBst I c 8 ∗ VBst I c 8 ∗ ATst I c ![8, 8, 7, 0] ∗ ⌜r = k0_pay57 (QB I c (back 2 c)) (KB I c 7) (VB I c 7)⌝)) := by
  conv_lhs => unfold KBst VBst ATst
  iintro ⟨⟨%f, %hf, Hf⟩, ⟨%f', %hf', Hf'⟩, ⟨%a, %ha, Ha⟩, %e, %e1⟩
  sl_exec
  sl_step
  isplitl [Hf]; · iapply (KB_fold I c 8 hf); iexact Hf
  isplitl [Hf']; · iapply (VB_fold I c 8 hf'); iexact Hf'
  isplitl [Ha]
  · iapply (AT_put2 I c ha 2 5 6 rfl rfl (by decide) ?_ ?_ ?_ ?_) $$ Ha
    · exact off18_eq c 1
    · exact off19_eq c 1
    · exact congrArg k0_pay55 e1
    · exact tile_eq I c _ 6 e hf hf' (by decide) (by decide) rfl rfl _ _
  ipureintro; exact congr (congrArg₂ k0_pay57 e (kbf_get hf 7 (by decide) rfl _)) (vbf_get hf' 7 (by decide) rfl _)

set_option sl_exec.squeezeSlice true in
theorem part32 (c : Dev nD) (v13 v837 : BitVec 32) (v991 : FVec F S256x128 .f32) :
    iprop(levAts L lv ∗ recs I K ∗ OW c 6 ∗ ATst I c ![8, 8, 7, 0] ∗ hw c cc0_scratch7 fullShare (WO I c) ∗ XC c (rsS 0) ∗ XP c (rsS 0) ∗ XC c (rsR 0) ∗ XP c (rsR 0)
        ∗ ⌜v991 = k0_pay57 (QB I c (back 2 c)) (KB I c 7) (VB I c 7)⌝)
      ⊢ wp frame (wpE (defs₀ (F := F)) 𝒱₀ c none) Set.univ (atBufs k0_part32 c v13 v837 v991)
      (fun r => iprop(OW c 6 ∗ ATst I c ![8, 8, 8, 0] ∗ hw c cc0_scratch7 fullShare (WO I c) ∗ XZ c (rsS 0) ∗ ssl I c 0 ∗ XZ c (rsR 0) ∗ rsl I c 0
        ∗ ⌜r.1 = k0_pay59 (AR I c (back 2 c)) (WO I c)⌝ ∗ ⌜r.2 = k0_pay60 (SS I 0 (prv c))⌝)) := by
  conv_lhs => unfold ATst OW
  iintro ⟨#Hlev, #HR, ⟨%W, HO⟩, ⟨%a, %ha, Ha⟩, Hw, Hc, Hp, Hc', Hp', %e⟩
  sl_exec
  iapply (wait_x I K c (rsS 0) rfl (credit_s _ _) W 6 (by decide)) $$ [Hc HO Hp]
  · isplitr; · iexact HR
    isplitr; · iexact Hlev
    isplitl [Hc]; · iexact Hc
    isplitl [HO]; · iexact HO
    iexact Hp
  iintro ⟨HO, Hz, Hs⟩
  ihave Hs := (got_rsS I c 0) $$ Hs
  simp only [Prog.lift, Prog.bind_op, Prog.bind_ret, Prog.pure_eq_ret, Prog.bind_assoc]
  iapply (wait_x I K c (rsR 0) rfl (credit_r _ _) _ 6 (by decide)) $$ [Hc' HO Hp']
  · isplitr; · iexact HR
    isplitr; · iexact Hlev
    isplitl [Hc']; · iexact Hc'
    isplitl [HO]; · iexact HO
    iexact Hp'
  iintro ⟨HO, Hz', Hr⟩
  ihave Hr := (got_rsR I c 0) $$ Hr
  ihave Ha := (AT_put I c ha 2 7 (n' := ![8, 8, 8, 0]) rfl (by decide) (off20_eq c 1) (congrArg k0_pay58 e)) $$ Ha
  ihave Ha := (AT_open I c _) $$ Ha
  icases Ha with ⟨%b, %hb, Ha⟩
  sl_exec
  iapply (load_r I c 0 (o := ![0, 0, 0]) rfl) $$ Hr
  iintro Hr
  sl_step
  isplitl [HO]; · iapply OW_intro; iexact HO
  isplitl [Ha]; · iapply (AT_fold I c _ hb); iexact Ha
  isplitl [Hw]; · iexact Hw
  isplitl [Hz]; · iexact Hz
  isplitl [Hs]; · iexact Hs
  isplitl [Hz']; · iexact Hz'
  isplitl [Hr]; · iexact Hr
  isplitr
  · ipureintro; exact congrArg₂ k0_pay59 (rows_get I hb 2 rfl (off21_eq c 1) _) (rd_wo I c _)
  · ipureintro; rfl

set_option sl_exec.squeezeSlice true in
theorem part33 (c : Dev nD) (v13 : BitVec 32) (v1016 v1019 : FVec F S256x1024 .f32) :
    iprop(levAts L lv ∗ recs I K ∗ OW c 6 ∗ sany c 1 ∗ rany (nxt c) 1 ∗ XT c (rsS 1) ∗ XT (nxt c) (rsR 1) ∗ XC c (agS 2) ∗ XP c (agS 2)
        ∗ ⌜v1016 = k0_pay59 (AR I c (back 2 c)) (WO I c)⌝ ∗ ⌜v1019 = k0_pay60 (SS I 0 (prv c))⌝)
      ⊢ wp frame (wpE (defs₀ (F := F)) 𝒱₀ c none) Set.univ (atBufs k0_part33 c v13 v1016 v1019)
      (fun r => iprop(OW c 7 ∗ XC c (rsS 1) ∗ XZ c (agS 2) ∗ xsl I c (back 2 c) fullShare.left)) := by
  conv_lhs => unfold OW
  iintro ⟨#Hlev, #HR, ⟨%W, HO⟩, Hs, Hd, Ht, Ht', Hc, Hp, %e, %e1⟩
  sl_exec
  iapply (load_sany c 1 (o := ![1, 0, 0]) rfl) $$ Hs
  iintro Hs
  simp only [Prog.lift, Prog.bind_op, Prog.bind_ret, Prog.pure_eq_ret, Prog.bind_assoc]
  iapply (store_s I c 1 (o := ![1, 0, 0]) rfl ?_) $$ Hs
  · exact congrArg₂ k0_pay61 e e1
  iintro Hs
  iapply (send_rs I K c _ (dev7_eq c) 1 (o := ![1, 0, 0]) rfl rfl rfl _ 6 7 rfl) $$ [HO Hs Hd Ht Ht']
  · isplitr; · iexact HR
    isplitl [Hs]; · iexact Hs
    isplitl [Hd]; · iexact Hd
    isplitl [HO]; · iexact HO
    isplitl [Ht]; · iexact Ht
    iexact Ht'
  iintro ⟨Hc', HO⟩
  iapply (wait_x I K c (agS 2) rfl (credit_x _ _) _ 7 (by decide)) $$ [Hc HO Hp]
  · isplitr; · iexact HR
    isplitr; · iexact Hlev
    isplitl [Hc]; · iexact Hc
    isplitl [HO]; · iexact HO
    iexact Hp
  iintro ⟨HO, Hz, Hs⟩
  ihave Hs := (got_agS I c 2 (j := 2) rfl) $$ Hs
  sl_step
  isplitl [HO]; · iapply OW_intro; iexact HO
  isplitl [Hc']; · iexact Hc'
  isplitl [Hz]; · iexact Hz
  iexact Hs

end Cert.RingProof

end
-- ==== Proof.PartsF.lean ====
/-
# The rows from three places back, the last scatter hop and the result

One statement for each part of the body, about the pieces of the state it touches.
-/
module

public import proofs.«01_k».proof.Proof.Close

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F)

variable (K : Dev nD × Fin 13 → ℕ)

set_option sl_exec.squeezeSlice true in
theorem part34 (c : Dev nD) (v2 : BitVec 32) :
    iprop(levAts L lv ∗ recs I K ∗ OW c 7 ∗ XC c (agR 2) ∗ XP c (agR 2) ∗ hw c cc0_scratch6 fullShare (WQ I c) ∗ KBst I c 8 ∗ VBst I c 8)
      ⊢ wp frame (wpE (defs₀ (F := F)) 𝒱₀ c none) Set.univ (atBufs k0_part34 c v2)
      (fun r => iprop(OW c 7 ∗ XZ c (agR 2) ∗ xsl I c (back 3 c) fullShare ∗ hw c cc0_scratch6 fullShare (WQ I c) ∗ KBst I c 8 ∗ VBst I c 8 ∗ ⌜r.2.1 = QB I c (back 3 c)⌝ ∗ ⌜r.2.2 = k0_pay63 (XB I (back 3 c)) (WQ I c) (KB I c 0) (VB I c 0)⌝)) := by
  conv_lhs => unfold OW KBst VBst
  iintro ⟨#Hlev, #HR, ⟨%W, HO⟩, Hc, Hp, Hq, ⟨%f, %hf, Hf⟩, ⟨%f', %hf', Hf'⟩⟩
  sl_exec
  iapply (wait_x I K c (agR 2) rfl (credit_x _ _) W 7 (by decide)) $$ [Hc HO Hp]
  · isplitr; · iexact HR
    isplitr; · iexact Hlev
    isplitl [Hc]; · iexact Hc
    isplitl [HO]; · iexact HO
    iexact Hp
  iintro ⟨HO, Hz, Hs⟩
  ihave Hs := (got_agR I c 2 (j := 3) rfl) $$ Hs
  simp only [Prog.lift, Prog.bind_op, Prog.bind_ret, Prog.pure_eq_ret, Prog.bind_assoc]
  iapply (load_x I c (back 3 c) fullShare (off8_eq c 2)) $$ Hs
  iintro Hs
  sl_exec
  sl_step
  isplitl [HO]; · iapply OW_intro; iexact HO
  isplitl [Hz]; · iexact Hz
  isplitl [Hs]; · iexact Hs
  isplitl [Hq]; · iexact Hq
  isplitl [Hf]; · iapply (KB_fold I c 8 hf); iexact Hf
  isplitl [Hf']; · iapply (VB_fold I c 8 hf'); iexact Hf'
  isplitr
  · ipureintro; exact congrArg (k0_pay62 _) (rd_wq I c _)
  · ipureintro; exact congr (congrArg₂ (k0_pay63 _) (rd_wq I c _) (kbf_get hf 0 (by decide) rfl _)) (vbf_get hf' 0 (by decide) rfl _)

set_option sl_exec.squeezeSlice true in
theorem part35 (c : Dev nD) (v1059 : BitVec 32) (v1067 : FVec F S256x1024 .bf16) (v1081 : FVec F S256x128 .bf16) :
    iprop(KBst I c 8 ∗ VBst I c 8 ∗ ATst I c ![8, 8, 8, 0] ∗ ⌜v1067 = QB I c (back 3 c)⌝ ∗ ⌜v1081 = k0_pay63 (XB I (back 3 c)) (WQ I c) (KB I c 0) (VB I c 0)⌝)
      ⊢ wp frame (wpE (defs₀ (F := F)) 𝒱₀ c none) Set.univ (atBufs k0_part35 c v1059 v1067 v1081)
      (fun r => iprop(KBst I c 8 ∗ VBst I c 8 ∗ ATst I c ![8, 8, 8, 2] ∗ ⌜r.1 = k0_pay66 (QB I c (back 3 c)) (KB I c 2) (VB I c 2)⌝)) := by
  conv_lhs => unfold KBst VBst ATst
  iintro ⟨⟨%f, %hf, Hf⟩, ⟨%f', %hf', Hf'⟩, ⟨%a, %ha, Ha⟩, %e, %e1⟩
  sl_exec
  sl_step
  isplitl [Hf]; · iapply (KB_fold I c 8 hf); iexact Hf
  isplitl [Hf']; · iapply (VB_fold I c 8 hf'); iexact Hf'
  isplitl [Ha]
  · iapply (AT_put2 I c ha 3 0 1 rfl rfl (by decide) ?_ ?_ ?_ ?_) $$ Ha
    · exact off9_eq c 2
    · exact off10_eq c 2
    · exact congrArg k0_pay64 e1
    · exact tile_eq I c _ 1 e hf hf' (by decide) (by decide) rfl rfl _ _
  ipureintro; exact congr (congrArg₂ k0_pay66 e (kbf_get hf 2 (by decide) rfl _)) (vbf_get hf' 2 (by decide) rfl _)

set_option sl_exec.squeezeSlice true in
theorem part36 (c : Dev nD) (v1059 : BitVec 32) (v1067 : FVec F S256x1024 .bf16) (v1119 : FVec F S256x128 .bf16) (v1120 : BitVec 32) :
    iprop(KBst I c 8 ∗ VBst I c 8 ∗ ATst I c ![8, 8, 8, 2] ∗ ⌜v1067 = QB I c (back 3 c)⌝ ∗ ⌜v1119 = k0_pay66 (QB I c (back 3 c)) (KB I c 2) (VB I c 2)⌝)
      ⊢ wp frame (wpE (defs₀ (F := F)) 𝒱₀ c none) Set.univ (atBufs k0_part36 c v1059 v1067 v1119 v1120)
      (fun r => iprop(KBst I c 8 ∗ VBst I c 8 ∗ ATst I c ![8, 8, 8, 4] ∗ ⌜r = k0_pay69 (QB I c (back 3 c)) (KB I c 4) (VB I c 4)⌝)) := by
  conv_lhs => unfold KBst VBst ATst
  iintro ⟨⟨%f, %hf, Hf⟩, ⟨%f', %hf', Hf'⟩, ⟨%a, %ha, Ha⟩, %e, %e1⟩
  sl_exec
  sl_step
  isplitl [Hf]; · iapply (KB_fold I c 8 hf); iexact Hf
  isplitl [Hf']; · iapply (VB_fold I c 8 hf'); iexact Hf'
  isplitl [Ha]
  · iapply (AT_put2 I c ha 3 2 3 rfl rfl (by decide) ?_ ?_ ?_ ?_) $$ Ha
    · exact off11_eq c 2
    · exact off12_eq c 2
    · exact congrArg k0_pay67 e1
    · exact tile_eq I c _ 3 e hf hf' (by decide) (by decide) rfl rfl _ _
  ipureintro; exact congr (congrArg₂ k0_pay69 e (kbf_get hf 4 (by decide) rfl _)) (vbf_get hf' 4 (by decide) rfl _)

set_option sl_exec.squeezeSlice true in
theorem part37 (c : Dev nD) (v1059 : BitVec 32) (v1067 : FVec F S256x1024 .bf16) (v1157 : FVec F S256x128 .bf16) :
    iprop(KBst I c 8 ∗ VBst I c 8 ∗ ATst I c ![8, 8, 8, 4] ∗ ⌜v1067 = QB I c (back 3 c)⌝ ∗ ⌜v1157 = k0_pay69 (QB I c (back 3 c)) (KB I c 4) (VB I c 4)⌝)
      ⊢ wp frame (wpE (defs₀ (F := F)) 𝒱₀ c none) Set.univ (atBufs k0_part37 c v1059 v1067 v1157)
      (fun r => iprop(KBst I c 8 ∗ VBst I c 8 ∗ ATst I c ![8, 8, 8, 6] ∗ ⌜r.1 = k0_pay73 (QB I c (back 3 c)) (KB I c 6) (VB I c 6)⌝ ∗ ⌜r.2 = k0_pay74 (QB I c (back 3 c)) (KB I c 6)⌝)) := by
  conv_lhs => unfold KBst VBst ATst
  iintro ⟨⟨%f, %hf, Hf⟩, ⟨%f', %hf', Hf'⟩, ⟨%a, %ha, Ha⟩, %e, %e1⟩
  sl_exec
  sl_step
  isplitl [Hf]; · iapply (KB_fold I c 8 hf); iexact Hf
  isplitl [Hf']; · iapply (VB_fold I c 8 hf'); iexact Hf'
  isplitl [Ha]
  · iapply (AT_put2 I c ha 3 4 5 rfl rfl (by decide) ?_ ?_ ?_ ?_) $$ Ha
    · exact off17_eq c 2
    · exact off18_eq c 2
    · exact congrArg k0_pay70 e1
    · exact tile_eq I c _ 5 e hf hf' (by decide) (by decide) rfl rfl _ _
  isplitr; · ipureintro; exact congr (congrArg₂ k0_pay73 e (kbf_get hf 6 (by decide) rfl _)) (vbf_get hf' 6 (by decide) rfl _)
  ipureintro; exact congrArg₂ k0_pay74 e (kbf_get hf 6 (by decide) rfl _)

set_option sl_exec.squeezeSlice true in
theorem part38 (c : Dev nD) (v1059 : BitVec 32) (v1067 : FVec F S256x1024 .bf16) (v1192 v1193 : FVec F S256x128 .f32) :
    iprop(levAts L lv ∗ recs I K ∗ OW c 7 ∗ XC c (rsS 1) ∗ XP c (rsS 1) ∗ KBst I c 8 ∗ VBst I c 8 ∗ ATst I c ![8, 8, 8, 6] ∗ ⌜v1067 = QB I c (back 3 c)⌝
        ∗ ⌜v1192 = k0_pay73 (QB I c (back 3 c)) (KB I c 6) (VB I c 6)⌝ ∗ ⌜v1193 = k0_pay74 (QB I c (back 3 c)) (KB I c 6)⌝)
      ⊢ wp frame (wpE (defs₀ (F := F)) 𝒱₀ c none) Set.univ (atBufs k0_part38 c v1059 v1067 v1192 v1193)
      (fun r => iprop(OW c 7 ∗ XZ c (rsS 1) ∗ ssl I c 1 ∗ KBst I c 8 ∗ VBst I c 8 ∗ ATst I c ![8, 8, 8, 8])) := by
  conv_lhs => unfold OW KBst VBst ATst
  iintro ⟨#Hlev, #HR, ⟨%W, HO⟩, Hc, Hp, ⟨%f, %hf, Hf⟩, ⟨%f', %hf', Hf'⟩, ⟨%a, %ha, Ha⟩, %e, %e1, %e2⟩
  sl_exec
  iapply (wait_x I K c (rsS 1) rfl (credit_s _ _) W 7 (by decide)) $$ [Hc HO Hp]
  · isplitr; · iexact HR
    isplitr; · iexact Hlev
    isplitl [Hc]; · iexact Hc
    isplitl [HO]; · iexact HO
    iexact Hp
  iintro ⟨HO, Hz, Hs⟩
  ihave Hs := (got_rsS I c 1) $$ Hs
  sl_step
  isplitl [HO]; · iapply OW_intro; iexact HO
  isplitl [Hz]; · iexact Hz
  isplitl [Hs]; · iexact Hs
  isplitl [Hf]; · iapply (KB_fold I c 8 hf); iexact Hf
  isplitl [Hf']; · iapply (VB_fold I c 8 hf'); iexact Hf'
  iapply (AT_put2 I c ha 3 6 7 rfl rfl (by decide) ?_ ?_ ?_ ?_) $$ Ha
  · exact off19_eq c 2
  · exact off20_eq c 2
  · exact congrArg₂ k0_pay75 e1 e2
  · exact tile_eq I c _ 7 e hf hf' (by decide) (by decide) rfl rfl _ _

set_option sl_exec.squeezeSlice true in
theorem part39 (c : Dev nD) (v13 v1059 : BitVec 32) :
    iprop(levAts L lv ∗ recs I K ∗ OW c 7 ∗ XC c (rsR 1) ∗ XP c (rsR 1) ∗ ATst I c ![8, 8, 8, 8] ∗ hw c cc0_scratch7 fullShare (WO I c) ∗ sany c 2)
      ⊢ wp frame (wpE (defs₀ (F := F)) 𝒱₀ c none) Set.univ (atBufs k0_part39 c v13 v1059)
      (fun r => iprop(OW c 7 ∗ XZ c (rsR 1) ∗ rsl I c 1 ∗ ATst I c ![8, 8, 8, 8] ∗ hw c cc0_scratch7 fullShare (WO I c) ∗ ssl I c 2)) := by
  conv_lhs => unfold OW ATst
  iintro ⟨#Hlev, #HR, ⟨%W, HO⟩, Hc, Hp, ⟨%a, %ha, Ha⟩, Hw, Hs⟩
  sl_exec
  iapply (wait_x I K c (rsR 1) rfl (credit_r _ _) W 7 (by decide)) $$ [Hc HO Hp]
  · isplitr; · iexact HR
    isplitr; · iexact Hlev
    isplitl [Hc]; · iexact Hc
    isplitl [HO]; · iexact HO
    iexact Hp
  iintro ⟨HO, Hz, Hr⟩
  ihave Hr := (got_rsR I c 1) $$ Hr
  sl_exec
  iapply (load_r I c 1 (o := ![1, 0, 0]) rfl) $$ Hr
  iintro Hr
  simp only [Prog.lift, Prog.bind_op, Prog.bind_ret, Prog.pure_eq_ret, Prog.bind_assoc]
  iapply (load_sany c 2 (o := ![2, 0, 0]) rfl) $$ Hs
  iintro Hs
  iapply (store_s I c 2 (o := ![2, 0, 0]) rfl ?_) $$ Hs
  · exact congr (congrArg₂ k0_pay77 (rows_get I ha 3 rfl (off21_eq c 2) _) (rd_wo I c _)) rfl
  iintro Hs
  sl_step
  isplitl [HO]; · iapply OW_intro; iexact HO
  isplitl [Hz]; · iexact Hz
  isplitl [Hr]; · iexact Hr
  isplitl [Ha]; · iapply (AT_fold I c _ ha); iexact Ha
  isplitl [Hw]; · iexact Hw
  iexact Hs

set_option sl_exec.squeezeSlice true in
theorem part40 (c : Dev nD) (v2 v13 : BitVec 32) :
    iprop(levAts L lv ∗ recs I K ∗ OW c 7 ∗ ssl I c 2 ∗ rany (nxt c) 2 ∗ XT c (rsS 2) ∗ XT (nxt c) (rsR 2) ∗ XP c (rsS 2) ∗ XC c (rsR 2) ∗ XP c (rsR 2)
        ∗ ATst I c ![8, 8, 8, 8] ∗ hw c cc0_scratch7 fullShare (WO I c) ∗ hany c cc0_stg3_0)
      ⊢ wp frame (wpE (defs₀ (F := F)) 𝒱₀ c none) Set.univ (atBufs k0_part40 c v2 v13)
      (fun r => iprop(OW c 8 ∗ XZ c (rsS 2) ∗ ssl I c 2 ∗ XZ c (rsR 2) ∗ rsl I c 2 ∗ ATst I c ![8, 8, 8, 8] ∗ hw c cc0_scratch7 fullShare (WO I c) ∗ hany c cc0_stg3_0 ∗ ⌜r = OUT I c⌝)) := by
  conv_lhs => unfold OW ATst
  iintro ⟨#Hlev, #HR, ⟨%W, HO⟩, Hs, Hd, Ht, Ht', Hp, Hc', Hp', ⟨%a, %ha, Ha⟩, Hw, ⟨%o, Ho⟩⟩
  sl_exec
  iapply (send_rs I K c _ (dev8_eq c) 2 (o := ![2, 0, 0]) rfl rfl rfl _ 7 8 rfl) $$ [HO Hs Hd Ht Ht']
  · isplitr; · iexact HR
    isplitl [Hs]; · iexact Hs
    isplitl [Hd]; · iexact Hd
    isplitl [HO]; · iexact HO
    isplitl [Ht]; · iexact Ht
    iexact Ht'
  iintro ⟨Hc, HO⟩
  sl_exec
  iapply (wait_x I K c (rsS 2) rfl (credit_s _ _) _ 8 (by decide)) $$ [Hc HO Hp]
  · isplitr; · iexact HR
    isplitr; · iexact Hlev
    isplitl [Hc]; · iexact Hc
    isplitl [HO]; · iexact HO
    iexact Hp
  iintro ⟨HO, Hz, Hs⟩
  ihave Hs := (got_rsS I c 2) $$ Hs
  simp only [Prog.lift, Prog.bind_op, Prog.bind_ret, Prog.pure_eq_ret, Prog.bind_assoc]
  iapply (wait_x I K c (rsR 2) rfl (credit_r _ _) _ 8 (by decide)) $$ [Hc' HO Hp']
  · isplitr; · iexact HR
    isplitr; · iexact Hlev
    isplitl [Hc']; · iexact Hc'
    isplitl [HO]; · iexact HO
    iexact Hp'
  iintro ⟨HO, Hz', Hr⟩
  ihave Hr := (got_rsR I c 2) $$ Hr
  iapply (load_r I c 2 (o := ![2, 0, 0]) rfl) $$ Hr
  iintro Hr
  sl_exec
  sl_step
  isplitl [HO]; · iapply OW_intro; iexact HO
  isplitl [Hz]; · iexact Hz
  isplitl [Hs]; · iexact Hs
  isplitl [Hz']; · iexact Hz'
  isplitl [Hr]; · iexact Hr
  isplitl [Ha]; · iapply (AT_fold I c _ ha); iexact Ha
  isplitl [Hw]; · iexact Hw
  isplitl [Ho]; · iexists o; iexact Ho
  ipureintro
  have hr : AR I c (back 0 c) = AR I c c := by rw [back_zero]
  exact congr (congrArg₂ k0_pay78 ((rows_get I ha 0 rfl (off22_eq c) _).trans hr) (rd_wo I c _)) rfl

end Cert.RingProof

end
-- ==== Proof.Body.lean ====
/-
# The body, from start to end
-/
module

public import proofs.«01_k».proof.Proof.PartsA
import proofs.«01_k».proof.Proof.PartsB
import proofs.«01_k».proof.Proof.PartsC
import proofs.«01_k».proof.Proof.PartsD
import proofs.«01_k».proof.Proof.PartsE
import proofs.«01_k».proof.Proof.PartsF

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F)

variable (K : Dev nD × Fin 13 → ℕ)

/-- What device `c` holds when its body starts. -/
def bodyPre (c : Dev nD) : sProp 𝕄 :=
  iprop(levAts L lv ∗ recs I K ∗ OW c 0 ∗ dutyTok ER (barCell (prv c)) 0 true ∗ dutyTok ER (barCell (nxt c)) 0 false ∗
    cred (tallyAt (barCell c) () 2) ∗ atPos ER (barCell c) 0 ∅ 0 ∗ XC c (agR 0) ∗ XC c (agR 1) ∗ XC c (agR 2) ∗ XC c (rsR 0) ∗
    XC c (rsR 1) ∗ XC c (rsR 2) ∗ XP c (agS 0) ∗ XP c (agS 1) ∗ XP c (agS 2) ∗ XP c (agR 0) ∗ XP c (agR 1) ∗ XP c (agR 2) ∗
    XP c (rsS 0) ∗ XP c (rsS 1) ∗ XP c (rsS 2) ∗ XP c (rsR 0) ∗ XP c (rsR 1) ∗ XP c (rsR 2) ∗ XT c (agS 0) ∗ XT c (agS 1) ∗
    XT c (agS 2) ∗ XT c (rsS 0) ∗ XT c (rsS 1) ∗ XT c (rsS 2) ∗ XT (nxt c) (agR 0) ∗ XT (nxt c) (agR 1) ∗ XT (nxt c) (agR 2) ∗
    XT (nxt c) (rsR 0) ∗ XT (nxt c) (rsR 1) ∗ XT (nxt c) (rsR 2) ∗ xany c (back 0 c) ∗ xany c (back 1 c) ∗ xany c (back 2 c) ∗
    xany c (back 3 c) ∗ rany c 0 ∗ rany c 1 ∗ rany c 2 ∗ sany c 0 ∗ sany c 1 ∗ sany c 2 ∗ ATst I c ![0, 0, 0, 0] ∗ KBst I c 0 ∗
    VBst I c 0 ∗ hany c cc0_scratch6 ∗ hany c cc0_scratch7 ∗ kfree c 0 ∗ kfree c 1 ∗ vfree c 0 ∗ vfree c 1 ∗ KT I c 0 ∗ KT I c 1 ∗
    KT I c 2 ∗ KT I c 3 ∗ KT I c 4 ∗ KT I c 5 ∗ KT I c 6 ∗ KT I c 7 ∗ VT I c 0 ∗ VT I c 1 ∗ VT I c 2 ∗ VT I c 3 ∗ VT I c 4 ∗
    VT I c 5 ∗ VT I c 6 ∗ VT I c 7 ∗ hw c cc0_stg0_0 fullShare (I.x c) ∗ hw c cc0_stg1_0 fullShare (I.wq c) ∗
    hw c cc0_stg2_0 fullShare (I.wo c) ∗ hany c cc0_stg3_0)
/-- What device `c` holds when its body is done: the result in its staging buffer, every counter at zero. -/
def bodyPost (c : Dev nD) : sProp 𝕄 :=
  iprop(OW c 8 ∗ hw c cc0_stg0_0 fullShare (I.x c) ∗ hw c cc0_stg1_0 fullShare (I.wq c) ∗ hw c cc0_stg2_0 fullShare (I.wo c) ∗
    hw c cc0_stg3_0 fullShare (OUT I c) ∗ semVal (barCell c) 0 ∗ XZ c (agS 0) ∗ XZ c (agS 1) ∗ XZ c (agS 2) ∗ XZ c (agR 0) ∗
    XZ c (agR 1) ∗ XZ c (agR 2) ∗ XZ c (rsS 0) ∗ XZ c (rsS 1) ∗ XZ c (rsS 2) ∗ XZ c (rsR 0) ∗ XZ c (rsR 1) ∗ XZ c (rsR 2) ∗
    xsl I c (back 0 c) fullShare.left ∗ xsl I c (back 0 c) fullShare.right ∗ xsl I c (back 1 c) fullShare.left ∗
    xsl I c (back 1 c) fullShare.right ∗ xsl I c (back 2 c) fullShare.left ∗ xsl I c (back 2 c) fullShare.right ∗
    xsl I c (back 3 c) fullShare ∗ ssl I c 0 ∗ ssl I c 1 ∗ ssl I c 2 ∗ rsl I c 0 ∗ rsl I c 1 ∗ rsl I c 2 ∗ ATst I c ![8, 8, 8, 8] ∗
    KBst I c 8 ∗ VBst I c 8 ∗ hw c cc0_scratch6 fullShare (WQ I c) ∗ hw c cc0_scratch7 fullShare (WO I c) ∗ kfree c 0 ∗ kfree c 1 ∗
    vfree c 0 ∗ vfree c 1 ∗ KZ c 0 ∗ KZ c 1 ∗ KZ c 2 ∗ KZ c 3 ∗ KZ c 4 ∗ KZ c 5 ∗ KZ c 6 ∗ KZ c 7 ∗ VZ c 0 ∗ VZ c 1 ∗ VZ c 2 ∗
    VZ c 3 ∗ VZ c 4 ∗ VZ c 5 ∗ VZ c 6 ∗ VZ c 7)

set_option sl_exec.squeezeSlice true in
/-- The body takes the one to the other: part by part. -/
theorem body_run (c : Dev nD) :
    bodyPre I K c ⊢ wp frame (wpE (defs₀ (F := F)) 𝒱₀ c none) Set.univ (atBufs cc0_body) (fun _ => bodyPost I c) := by
  conv_lhs => unfold bodyPre
  iintro ⟨#Hlev, #HR, H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, ⟨%w50, H48⟩, ⟨%w51, H49⟩, H50, H51, H52, H53, H54, H55, H56, H57, H58, H59, H60, H61, H62, H63, H64, H65, H66, H67, H68, H69, H70, H71, H72, ⟨%w75, H73⟩⟩
  have h1 := part1 I c
  have h2 := part2 I c
  have h3 := part3 I K c
  have h5 := part5 I K c
  have h6 := part6 I c
  have h7 := part7 I c
  have h8 := part8 I c
  have h9 := part9 I c
  have h10 := part10 I c
  have h11 := part11 I c
  have h12 := part12 I c
  have h13 := part13 I K c
  have h14 := part14 I K c
  have h15 := part15 I c
  have h16 := part16 I c
  have h17 := part17 I c
  have h18 := part18 I c
  have h19 := part19 I c
  have h20 := part20 I c
  have h21 := part21 I c
  have h22 := part22 I c
  have h23 := part23 I c
  have h24 := part24 I c
  have h25 := part25 I c
  have h26 := part26 I K c
  have h27 := part27 I K c
  have h28 := part28 I c
  have h29 := part29 I c
  have h30 := part30 I c
  have h31 := part31 I c
  have h32 := part32 I K c
  have h33 := part33 I K c
  have h34 := part34 I K c
  have h35 := part35 I c
  have h36 := part36 I c
  have h37 := part37 I c
  have h38 := part38 I K c
  have h39 := part39 I K c
  have h40 := part40 I K c
  unfold barPay at h3
  dsimp only [atBufs] at h1 h2 h3 h5 h6 h7 h8 h9 h10 h11 h12 h13 h14 h15 h16 h17 h18 h19 h20 h21 h22 h23 h24 h25 h26 h27 h28 h29 h30 h31 h32 h33 h34 h35 h36 h37 h38 h39 h40 ⊢
  set_option sl_exec.stopBefore "k0_part2" in sl_exec
  have hd : d0 = c := hk0_part1_2
  subst hd
  sl_exec
  sl_step
  unfold bodyPost xsl ssl rsl
  isplitl [Hk0_part40_0]; · iapply OW_intro; iexact Hk0_part40_0
  isplitl [Hk0_part5_1]; · iexact Hk0_part5_1
  isplitl [Hk0_part2_6]; · iexact Hk0_part2_6
  isplitl [Hk0_part2_7]; · iexact Hk0_part2_7
  isplitl [Hk0_part40_8]; · iapply (Entails.of_eq (congrArg (hw d0 cc0_stg3_0 fullShare) ((put_whole cc0_stg3_0 zeros3 _ _ _).trans hk0_part40_9))); iexact Hk0_part40_8
  isplitl [Hk0_part3_2]; · iexact Hk0_part3_2
  isplitl [Hk0_part13_1]; · iexact Hk0_part13_1
  isplitl [Hk0_part26_5]; · iexact Hk0_part26_5
  isplitl [Hk0_part33_2]; · iexact Hk0_part33_2
  isplitl [Hk0_part14_1]; · iexact Hk0_part14_1
  isplitl [Hk0_part27_1]; · iexact Hk0_part27_1
  isplitl [Hk0_part34_1]; · iexact Hk0_part34_1
  isplitl [Hk0_part32_4]; · iexact Hk0_part32_4
  isplitl [Hk0_part38_1]; · iexact Hk0_part38_1
  isplitl [Hk0_part40_1]; · iexact Hk0_part40_1
  isplitl [Hk0_part32_6]; · iexact Hk0_part32_6
  isplitl [Hk0_part39_1]; · iexact Hk0_part39_1
  isplitl [Hk0_part40_3]; · iexact Hk0_part40_3
  isplitl [Hk0_part13_2]; · iexact Hk0_part13_2
  isplitl [Hk0_part5_3]; · iexact Hk0_part5_3
  isplitl [Hk0_part26_6]; · iexact Hk0_part26_6
  isplitl [Hk0_part14_2]; · iexact Hk0_part14_2
  isplitl [Hk0_part33_3]; · iexact Hk0_part33_3
  isplitl [Hk0_part27_2]; · iexact Hk0_part27_2
  isplitl [Hk0_part34_2]; · iexact Hk0_part34_2
  isplitl [Hk0_part32_5]; · iexact Hk0_part32_5
  isplitl [Hk0_part38_2]; · iexact Hk0_part38_2
  isplitl [Hk0_part40_2]; · iexact Hk0_part40_2
  isplitl [Hk0_part32_7]; · iexact Hk0_part32_7
  isplitl [Hk0_part39_2]; · iexact Hk0_part39_2
  isplitl [Hk0_part40_4]; · iexact Hk0_part40_4
  isplitl [Hk0_part40_6]; · iapply (AT_fold I d0 _ hk0_part40_5); iexact Hk0_part40_6
  isplitl [Hk0_part38_4]; · iapply (KB_fold I d0 8 hk0_part38_3); iexact Hk0_part38_4
  isplitl [Hk0_part38_6]; · iapply (VB_fold I d0 8 hk0_part38_5); iexact Hk0_part38_6
  isplitl [Hk0_part34_3]; · iexact Hk0_part34_3
  isplitl [Hk0_part40_7]; · iexact Hk0_part40_7
  isplitl [Hk0_part20_1]; · iapply kfree_intro; iexact Hk0_part20_1
  isplitl [Hk0_part21_1]; · iapply kfree_intro; iexact Hk0_part21_1
  isplitl [Hk0_part20_2]; · iapply vfree_intro; iexact Hk0_part20_2
  isplitl [Hk0_part21_2]; · iapply vfree_intro; iexact Hk0_part21_2
  isplitl [Hk0_part6_3]; · iexact Hk0_part6_3
  isplitl [Hk0_part8_3]; · iexact Hk0_part8_3
  isplitl [Hk0_part10_3]; · iexact Hk0_part10_3
  isplitl [Hk0_part12_3]; · iexact Hk0_part12_3
  isplitl [Hk0_part15_10]; · iexact Hk0_part15_10
  isplitl [Hk0_part17_11]; · iexact Hk0_part17_11
  isplitl [Hk0_part19_11]; · iexact Hk0_part19_11
  isplitl [Hk0_part21_3]; · iexact Hk0_part21_3
  isplitl [Hk0_part6_4]; · iexact Hk0_part6_4
  isplitl [Hk0_part8_4]; · iexact Hk0_part8_4
  isplitl [Hk0_part10_4]; · iexact Hk0_part10_4
  isplitl [Hk0_part12_4]; · iexact Hk0_part12_4
  isplitl [Hk0_part16_2]; · iexact Hk0_part16_2
  isplitl [Hk0_part18_2]; · iexact Hk0_part18_2
  isplitl [Hk0_part20_3]; · iexact Hk0_part20_3
  iexact Hk0_part21_4

end Cert.RingProof

end
-- ==== Proof.Slots.lean ====
/-
# The buffers of the call cut into the pieces the body holds

A landing buffer is held slot by slot, and the keys and values lend one part to each copy. This module cuts the
buffers the call hands over whole into those pieces, and joins the pieces left at the end.
-/
module

public import proofs.«01_k».proof.Proof.Body
public import Idealize.ShloMosaic.Lib.Ring

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists lead_disjoint lead_cover)
open Idealize.ShloMosaic.Pipeline (Dat Cfg Window BodyObligation cellOf)

variable {F : FTy → Type} [FloatOps F]

local notation "𝕄" => MT nD τ sig Unit (Elt F) ℕ UU ℕ

variable (I : Ins F)
/-! ## A buffer and its slots -/

/-- A buffer at contents not known is the family of its slots, each at contents not known. -/
theorem cut {ℓ : Loc nD τ sig} {n : ℕ} (S : Fin n → Finset (Idx ℓ)) (hd : ∀ b b', b ≠ b' → Disjoint (S b) (S b'))
    (hc : Finset.univ.biUnion S = Finset.univ) :
    (iprop(∃ f, ℓ ↦{fullShare} f) : sProp 𝕄) ⊢ bigSep Finset.univ fun j => iprop(∃ f, ℓ ↦[S j]{fullShare} f) := by
  iintro ⟨%f, H⟩
  ihave H := (Entails.of_eq (pointsTo_blocks S hd hc f)) $$ H
  iapply (show (bigSep Finset.univ fun j => (ℓ ↦[S j]{fullShare} f : sProp 𝕄))
      ⊢ bigSep Finset.univ fun j => iprop(∃ f, ℓ ↦[S j]{fullShare} f) from
    bigSep_mono fun j _ => exists_intro (Φ := fun f => iprop(ℓ ↦[S j]{fullShare} f)) f)
  iexact H

theorem uncut {ℓ : Loc nD τ sig} {n : ℕ} (S : Fin n → Finset (Idx ℓ)) (hd : ∀ b b', b ≠ b' → Disjoint (S b) (S b'))
    (hc : Finset.univ.biUnion S = Finset.univ) :
    (bigSep Finset.univ fun j => iprop(∃ f, ℓ ↦[S j]{fullShare} f)) ⊢ (iprop(∃ f, ℓ ↦{fullShare} f) : sProp 𝕄) :=
  pointsTo_blocks_join_exists S hd hc (fun _ => Classical.arbitrary _)

/-- A buffer at contents not known, and its slots, under the names the body has for them. -/
theorem pieces {ℓ : Loc nD τ sig} {n : ℕ} (S : Fin n → Finset (Idx ℓ)) (hd : ∀ b b', b ≠ b' → Disjoint (S b) (S b'))
    (hc : Finset.univ.biUnion S = Finset.univ) (P : Fin n → sProp 𝕄) (hP : ∀ j, P j = iprop(∃ f, ℓ ↦[S j]{fullShare} f)) :
    (iprop(∃ f, ℓ ↦{fullShare} f) : sProp 𝕄) ⊣⊢ bigSep Finset.univ P := by
  obtain rfl : P = fun j => iprop(∃ f, ℓ ↦[S j]{fullShare} f) := funext hP
  exact ⟨cut S hd hc, uncut S hd hc⟩

theorem x_set (j : Fin 4) : (xslM j).view.set = (slot4 j).set := (xsl_set j).symm.trans (View.set_slice_whole _ _)
theorem s_set (s : Fin 3) : (sndslM s).view.set = (slot3 s).set := (ssl_set s).symm.trans (View.set_slice_whole _ _)
theorem r_set (s : Fin 3) : (rcvslM s).view.set = (slot3 s).set := (rsl_set s).symm.trans (View.set_slice_whole _ _)
theorem slot4_disj (b b' : Fin 4) (h : b ≠ b') : Disjoint (slot4 b).set (slot4 b').set :=
  lead_disjoint (s := S4x256x1024) 0 1 (fun j : Fin 4 => ![j.val, 0, 0]) S1x256x1024.size inb_slot4 (fun b => (Nat.one_mul _).symm) rfl b b' h
theorem slot3_disj (b b' : Fin 3) (h : b ≠ b') : Disjoint (slot3 b).set (slot3 b').set :=
  lead_disjoint (s := S3x256x1024) 0 1 (fun j : Fin 3 => ![j.val, 0, 0]) S1x256x1024.size inb_slot3 (fun b => (Nat.one_mul _).symm) rfl b b' h
theorem slot2_disj (b b' : Fin 2) (h : b ≠ b') : Disjoint (slot2 b).set (slot2 b').set :=
  lead_disjoint (s := S2x4096x128) 0 1 (fun j : Fin 2 => ![j.val, 0, 0]) S1x4096x128.size inb_slot2 (fun b => (Nat.one_mul _).symm) rfl b b' h
theorem slot4_cover : Finset.univ.biUnion (fun j => (slot4 j).set) = Finset.univ :=
  lead_cover (s := S4x256x1024) 0 1 (fun j : Fin 4 => ![j.val, 0, 0]) S1x256x1024.size inb_slot4 (fun b => (Nat.one_mul _).symm)
    (by decide) rfl (by decide) rfl
theorem slot3_cover : Finset.univ.biUnion (fun j => (slot3 j).set) = Finset.univ :=
  lead_cover (s := S3x256x1024) 0 1 (fun j : Fin 3 => ![j.val, 0, 0]) S1x256x1024.size inb_slot3 (fun b => (Nat.one_mul _).symm)
    (by decide) rfl (by decide) rfl
theorem slot2_cover : Finset.univ.biUnion (fun j => (slot2 j).set) = Finset.univ :=
  lead_cover (s := S2x4096x128) 0 1 (fun j : Fin 2 => ![j.val, 0, 0]) S1x4096x128.size inb_slot2 (fun b => (Nat.one_mul _).symm)
    (by decide) rfl (by decide) rfl

theorem bigSep_2 (Φ : Fin 2 → sProp 𝕄) : bigSep Finset.univ Φ = iprop(Φ 0 ∗ Φ 1) := bigSep_univ_eq_bigSepL [0, 1] (by decide) (by decide) Φ
theorem bigSep_3 (Φ : Fin 3 → sProp 𝕄) : bigSep Finset.univ Φ = iprop(Φ 0 ∗ Φ 1 ∗ Φ 2) := bigSep_univ_eq_bigSepL [0, 1, 2] (by decide) (by decide) Φ
theorem bigSep_4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The devices counted back from `c`. -/
def backE (c : Dev nD) : Fin 4 ≃ Dev nD := ⟨fun k => back k c, fun j => back j c, by revert c; decide, by revert c; decide⟩

/-! ## The landing buffers -/

theorem x_pieces (c : Dev nD) : hany (F := F) c cc0_scratch0 ⊣⊢ iprop(xany c (back 0 c) ∗ xany c (back 1 c) ∗ xany c (back 2 c) ∗ xany c (back 3 c)) := by
  have e : (bigSep Finset.univ fun j : Fin 4 => xany (F := F) c j)
      = iprop(xany c (back 0 c) ∗ xany c (back 1 c) ∗ xany c (back 2 c) ∗ xany c (back 3 c)) := by
    rw [bigSep_univ_equiv (backE c) (fun j : Dev nD => xany (F := F) c j), bigSep_4]; rfl
  rw [← e]
  exact pieces (ℓ := (Memref.whole cc0_scratch0).view.loc (c : Thread nD τ)) (fun j : Fin 4 => (slot4 j).set) slot4_disj slot4_cover
    (fun j => xany (F := F) c j) (fun j => by unfold xany; rw [x_set])

theorem s_pieces (c : Dev nD) : hany (F := F) c cc0_scratch8 ⊣⊢ iprop(sany c 0 ∗ sany c 1 ∗ sany c 2) := by
  rw [← bigSep_3 (fun s => sany (F := F) c s)]
  exact pieces (ℓ := (Memref.whole cc0_scratch8).view.loc (c : Thread nD τ)) (fun j : Fin 3 => (slot3 j).set) slot3_disj slot3_cover
    (fun j => sany (F := F) c j) (fun j => by unfold sany; rw [s_set])

theorem r_pieces (c : Dev nD) : hany (F := F) c cc0_scratch9 ⊣⊢ iprop(rany c 0 ∗ rany c 1 ∗ rany c 2) := by
  rw [← bigSep_3 (fun s => rany (F := F) c s)]
  exact pieces (ℓ := (Memref.whole cc0_scratch9).view.loc (c : Thread nD τ)) (fun j : Fin 3 => (slot3 j).set) slot3_disj slot3_cover
    (fun j => rany (F := F) c j) (fun j => by unfold rany; rw [r_set])

theorem setOn_whole (b : Ref sig .tc) (M : Finset b.ty.Idx) : (Memref.whole b).view.setOn M = M := Finset.map_refl

theorem k_pieces (c : Dev nD) : hany (F := F) c cc0_scratch2 ⊣⊢ iprop(kfree c 0 ∗ kfree c 1) := by
  rw [← bigSep_2 (fun s => kfree (F := F) c s)]
  exact pieces (ℓ := (Memref.whole cc0_scratch2).view.loc (c : Thread nD τ)) (fun j : Fin 2 => (slot2 j).set) slot2_disj slot2_cover
    (fun j => kfree (F := F) c j) (fun j => by unfold kfree kst; rw [setOn_whole])

theorem v_pieces (c : Dev nD) : hany (F := F) c cc0_scratch3 ⊣⊢ iprop(vfree c 0 ∗ vfree c 1) := by
  rw [← bigSep_2 (fun s => vfree (F := F) c s)]
  exact pieces (ℓ := (Memref.whole cc0_scratch3).view.loc (c : Thread nD τ)) (fun j : Fin 2 => (slot2 j).set) slot2_disj slot2_cover
    (fun j => vfree (F := F) c j) (fun j => by unfold vfree vst; rw [setOn_whole])

/-! ## The parts lent to the copies -/

/-- Of a buffer held whole, one part for each of eight copies, and what is left. -/
theorem lend {ℓ : Loc nD τ sig} (f : Buf (Elt F) ℓ) (o : ℕ) (ho : o ≤ 18) :
    (ℓ ↦{fullShare} f : sProp 𝕄) ⊢ iprop((ℓ ↦{Transfers.shareDrop fullShare 26} f)
      ∗ bigSep Finset.univ fun h : Fin 8 => (ℓ ↦{Transfers.shareTokN fullShare (o + h.val)} f)) := by
  refine (Transfers.pointsTo_toks_range fullShare 26).1.trans (sep_mono_right ?_)
  have hm : Finset.univ.map (⟨fun h : Fin 8 => o + h.val, fun a b h => Fin.ext (Nat.add_left_cancel h)⟩ : Fin 8 ↪ ℕ) ⊆ Finset.range 26 := by
    intro n hn
    obtain ⟨h, -, rfl⟩ := Finset.mem_map.mp hn
    have := h.isLt
    exact Finset.mem_range.mpr (by show o + h.val < 26; omega)
  refine (BI.bigSep_subset hm).trans ?_
  rw [bigSep_map]; exact BI.Entails.refl _

/-! ## The scratch memory -/

/-- The scratch memory in the pieces the body starts from. -/
def scrIn (c : Dev nD) : sProp 𝕄 :=
  iprop(xany (F := F) c (back 0 c) ∗ xany c (back 1 c) ∗ xany c (back 2 c) ∗ xany c (back 3 c) ∗ rany c 0 ∗ rany c 1 ∗ rany c 2
    ∗ sany c 0 ∗ sany c 1 ∗ sany c 2 ∗ hany c cc0_scratch1 ∗ hany c cc0_scratch4 ∗ hany c cc0_scratch5 ∗ hany c cc0_scratch6
    ∗ hany c cc0_scratch7 ∗ kfree c 0 ∗ kfree c 1 ∗ vfree c 0 ∗ vfree c 1)

theorem scr_in (c : Dev nD) : (Pipeline.scopedRest (Ix := Unit) (Name := ℕ) (U := UU) (Lvl := ℕ) (Val := Elt F) cfg0.spec c : sProp 𝕄) ⊢ scrIn c := by
  rw [show cfg0.spec = spec0 from rfl, scopedRest0_eq]
  unfold scrIn
  iintro ⟨H0, H1, H2, H3, H4, H5, H6, H7, H8, H9⟩
  ihave H0 := (x_pieces (F := F) c).1 $$ H0
  ihave H2 := (k_pieces (F := F) c).1 $$ H2
  ihave H3 := (v_pieces (F := F) c).1 $$ H3
  ihave H8 := (s_pieces (F := F) c).1 $$ H8
  ihave H9 := (r_pieces (F := F) c).1 $$ H9
  icases H0 with ⟨X0, X1, X2, X3⟩
  icases H2 with ⟨K0, K1⟩
  icases H3 with ⟨V0, V1⟩
  icases H8 with ⟨S0, S1, S2⟩
  icases H9 with ⟨R0, R1, R2⟩
  isplitl [X0]; · iexact X0
  isplitl [X1]; · iexact X1
  isplitl [X2]; · iexact X2
  isplitl [X3]; · iexact X3
  isplitl [R0]; · iexact R0
  isplitl [R1]; · iexact R1
  isplitl [R2]; · iexact R2
  isplitl [S0]; · iexact S0
  isplitl [S1]; · iexact S1
  isplitl [S2]; · iexact S2
  isplitl [H1]; · iexact H1
  isplitl [H4]; · iexact H4
  isplitl [H5]; · iexact H5
  isplitl [H6]; · iexact H6
  isplitl [H7]; · iexact H7
  isplitl [K0]; · iexact K0
  isplitl [K1]; · iexact K1
  isplitl [V0] <;> iassumption

theorem scr_out (c : Dev nD) : scrIn c ⊢ (Pipeline.scopedRest (Ix := Unit) (Name := ℕ) (U := UU) (Lvl := ℕ) (Val := Elt F) cfg0.spec c : sProp 𝕄) := by
  rw [show cfg0.spec = spec0 from rfl, scopedRest0_eq]
  unfold scrIn
  iintro ⟨X0, X1, X2, X3, R0, R1, R2, S0, S1, S2, H1, H4, H5, H6, H7, K0, K1, V0, V1⟩
  isplitl [X0 X1 X2 X3]
  · iapply (x_pieces (F := F) c).2
    isplitl [X0]; · iexact X0
    isplitl [X1]; · iexact X1
    isplitl [X2] <;> iassumption
  isplitl [H1]; · iexact H1
  isplitl [K0 K1]
  · iapply (k_pieces (F := F) c).2; isplitl [K0] <;> iassumption
  isplitl [V0 V1]
  · iapply (v_pieces (F := F) c).2; isplitl [V0] <;> iassumption
  isplitl [H4]; · iexact H4
  isplitl [H5]; · iexact H5
  isplitl [H6]; · iexact H6
  isplitl [H7]; · iexact H7
  isplitl [S0 S1 S2]
  · iapply (s_pieces (F := F) c).2
    isplitl [S0]; · iexact S0
    isplitl [S1] <;> iassumption
  iapply (r_pieces (F := F) c).2
  isplitl [R0]; · iexact R0
  isplitl [R1] <;> iassumption

end Cert.RingProof

end
-- ==== Proof.Oblig.lean ====
/-
# The kernel's call: what a device holds around it, and its obligation

The staging library asks, for each device, that the body take what the device carries into the call and the staged
blocks to what it carries out and the result. This module names both and shows it from the body's run.
-/
module

public import proofs.«01_k».proof.Proof.Slots

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The run's start: what the memory holds -/

/-- The memory at launch: arbitrary contents, every semaphore counter zero, arbitrary generator registers. -/
def s₀ : MemSt nD τ sig (Elt F) := ⟨m, fun _ => 0, ρ⟩

/-- The blocks every device is called on, read off the memory. -/
def insOf : Ins F where
  x c := (win0_0.blk (0 : Fin 1)).view.read (Elt F) (m ((c : Thread nD τ).loc main_arg0))
  wq c := (win0_1.blk (0 : Fin 1)).view.read (Elt F) (m ((c : Thread nD τ).loc main_arg1))
  wo c := (win0_2.blk (0 : Fin 1)).view.read (Elt F) (m ((c : Thread nD τ).loc main_arg4))
  k c := m ((c : Thread nD τ).loc main_arg2)
  v c := m ((c : Thread nD τ).loc main_arg3)

variable (I : Ins F)

theorem bigSep_13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-! ## What a device holds at its kernel's start and end -/

/-- The counters of the twelve transfer semaphores, and of the sixteen of the copies inside the device, at zero. -/
def xzs (c : Dev nD) : sProp 𝕄 := iprop(XZ c (agS 0) ∗ XZ c (agS 1) ∗ XZ c (agS 2) ∗ XZ c (agR 0) ∗ XZ c (agR 1) ∗ XZ c (agR 2) ∗ XZ c (rsS 0) ∗ XZ c (rsS 1) ∗
    XZ c (rsS 2) ∗ XZ c (rsR 0) ∗ XZ c (rsR 1) ∗ XZ c (rsR 2))
def kvzs (c : Dev nD) : sProp 𝕄 := iprop(KZ c 0 ∗ KZ c 1 ∗ KZ c 2 ∗ KZ c 3 ∗ KZ c 4 ∗ KZ c 5 ∗ KZ c 6 ∗ KZ c 7 ∗ VZ c 0 ∗ VZ c 1 ∗ VZ c 2 ∗ VZ c 3 ∗ VZ c 4 ∗ VZ c 5 ∗
    VZ c 6 ∗ VZ c 7)

/-- The rights to pay the duties of a device's own cells, as they are made, -/
def toks (c : Dev nD) : sProp 𝕄 :=
  iprop(dutyTok ER (barCell c) 0 false ∗ dutyTok ER (barCell c) 0 true ∗ XT c (agS 0) ∗ XT c (agS 1) ∗ XT c (agS 2) ∗ XT c (agR 0) ∗
    XT c (agR 1) ∗ XT c (agR 2) ∗ XT c (rsS 0) ∗ XT c (rsS 1) ∗ XT c (rsS 2) ∗ XT c (rsR 0) ∗ XT c (rsR 1) ∗ XT c (rsR 2))
/-- and those a device pays with: its own send cells', and its neighbours' barrier and receive cells'. -/
def payToks (c : Dev nD) : sProp 𝕄 :=
  iprop(dutyTok ER (barCell (nxt c)) 0 false ∗ dutyTok ER (barCell (prv c)) 0 true ∗ XT c (agS 0) ∗ XT c (agS 1) ∗ XT c (agS 2) ∗
    XT (nxt c) (agR 0) ∗ XT (nxt c) (agR 1) ∗ XT (nxt c) (agR 2) ∗ XT c (rsS 0) ∗ XT c (rsS 1) ∗ XT c (rsS 2) ∗ XT (nxt c) (rsR 0) ∗
    XT (nxt c) (rsR 1) ∗ XT (nxt c) (rsR 2))

/-- The credits dealt at launch. -/
def creds (c : Dev nD) : sProp 𝕄 :=
  iprop(cred (tallyAt (barCell c) () 2) ∗ XC c (agR 0) ∗ XC c (agR 1) ∗ XC c (agR 2) ∗ XC c (rsR 0) ∗ XC c (rsR 1) ∗ XC c (rsR 2))

/-- A device's places at its cells, its rights to pay, and the counters of its copies. -/
def lin (c : Dev nD) : sProp 𝕄 :=
  iprop((bigSep Finset.univ fun k : Fin 13 => atPos ER (kcell (c, k)) 0 ∅ 0) ∗ payToks c ∗ kvzs c)

/-- The parts of the keys and of the values lent to the copies, -/
def lent (c : Dev nD) : sProp 𝕄 :=
  iprop((bigSep Finset.univ fun h : Fin 8 => hw c main_arg2 (Transfers.shareTokN fullShare (10 + h.val)) (I.k c))
    ∗ bigSep Finset.univ fun h : Fin 8 => hw c main_arg3 (Transfers.shareTokN fullShare (18 + h.val)) (I.v c))
/-- and what is kept of both. -/
def kept (c : Dev nD) : sProp 𝕄 :=
  iprop(hw c main_arg2 (Transfers.shareDrop fullShare 26) (I.k c) ∗ hw c main_arg3 (Transfers.shareDrop fullShare 26) (I.v c))

/-- The launch's making for device `c`. -/
def G' (c : Dev nD) : sProp 𝕄 := iprop(∃ K, recs I K ∗ lin c)
/-- What device `c` carries into the kernel, -/
def start (c : Dev nD) : sProp 𝕄 := iprop(G' I c ∗ levAts L lv ∗ creds c ∗ lent I c)
def Φ₀ (c : Dev nD) : sProp 𝕄 := iprop(start I c ∗ scrIn c)
/-- and out of it. -/
def Φ₁ (c : Dev nD) : sProp 𝕄 := iprop(semVal (barCell c) 0 ∗ (xzs c ∗ kvzs c) ∗ scrIn c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m).x c
    | ⟨1, _⟩ => (insOf m).wq c
    | ⟨2, _⟩ => (insOf m).wo c
    | ⟨3, _⟩ => OUT (insOf m) c
  Φ t := match t with
    | ⟨0, _⟩ => Φ₀ (insOf m) c
    | ⟨_ + 1, _⟩ => Φ₁ c
  q _ := fullShare
  owed t := match t with
    | ⟨0, _⟩ => OL c 0
    | ⟨_ + 1, _⟩ => OL c 8

theorem OL_last (c : Dev nD) : OL c 8 = 0 := rfl

def t₀ : Fin cfg0.N := t0_0
theorem fin_N (t : Fin cfg0.N) : t = t₀ := fin_N0 t

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The kernel's start, opened into the pieces of the body. -/
theorem pre_open (K : Dev nD × Fin 13 → ℕ) (c : Dev nD) :
    iprop((recs I K ∗ lin c) ∗ (levAts L lv ∗ creds c ∗ lent I c) ∗ scrIn c ∗ OW c 0
      ∗ hw c cc0_stg0_0 fullShare (I.x c) ∗ hw c cc0_stg1_0 fullShare (I.wq c) ∗ hw c cc0_stg2_0 fullShare (I.wo c) ∗ hany c cc0_stg3_0)
      ⊢ bodyPre I K c := by
  unfold lin creds lent scrIn payToks kvzs
  rw [bigSep_13, bigSep_8, bigSep_8]
  iintro ⟨⟨HR, ⟨P0, P1, P2, P3, P4, P5, P6, P7, P8, P9, P10, P11, P12⟩, ⟨T0, T1, T2, T3, T4, T5, T6, T7, T8, T9, T10, T11, T12, T13⟩,
      ⟨ZK0, ZK1, ZK2, ZK3, ZK4, ZK5, ZK6, ZK7, ZV0, ZV1, ZV2, ZV3, ZV4, ZV5, ZV6, ZV7⟩⟩,
    ⟨HL, ⟨C0, C1, C2, C3, C4, C5, C6⟩, ⟨LK0, LK1, LK2, LK3, LK4, LK5, LK6, LK7⟩, ⟨LV0, LV1, LV2, LV3, LV4, LV5, LV6, LV7⟩⟩,
    ⟨X0, X1, X2, X3, R0, R1, R2, S0, S1, S2, ⟨%fa, HA⟩, ⟨%fk, HK⟩, ⟨%fv, HV⟩, H6, H7, K0, K1, V0, V1⟩, HO, W0, W1, W2, W3⟩
  unfold bodyPre KT VT ATst KBst VBst
  isplitl [HL]; · iexact HL
  isplitl [HR]; · iexact HR
  isplitl [HO]; · iexact HO
  isplitl [T1]; · iexact T1
  isplitl [T0]; · iexact T0
  isplitl [C0]; · iexact C0
  isplitl [P0]; · iexact P0
  isplitl [C1]; · iexact C1
  isplitl [C2]; · iexact C2
  isplitl [C3]; · iexact C3
  isplitl [C4]; · iexact C4
  isplitl [C5]; · iexact C5
  isplitl [C6]; · iexact C6
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [T2]; · iexact T2
  isplitl [T3]; · iexact T3
  isplitl [T4]; · iexact T4
  isplitl [T8]; · iexact T8
  isplitl [T9]; · iexact T9
  isplitl [T10]; · iexact T10
  isplitl [T5]; · iexact T5
  isplitl [T6]; · iexact T6
  isplitl [T7]; · iexact T7
  isplitl [T11]; · iexact T11
  isplitl [T12]; · iexact T12
  isplitl [T13]; · iexact T13
  isplitl [X0]; · iexact X0
  isplitl [X1]; · iexact X1
  isplitl [X2]; · iexact X2
  isplitl [X3]; · iexact X3
  isplitl [R0]; · iexact R0
  isplitl [R1]; · iexact R1
  isplitl [R2]; · iexact R2
  isplitl [S0]; · iexact S0
  isplitl [S1]; · iexact S1
  isplitl [S2]; · iexact S2
  isplitl [HA]
  · iexists fa; isplitr; · ipureintro; exact tiles_zero I c fa
    iexact HA
  isplitl [HK]
  · iexists fk; isplitr; · ipureintro; exact heads_zero _ fk
    iexact HK
  isplitl [HV]
  · iexists fv; isplitr; · ipureintro; exact heads_zero _ fv
    iexact HV
  isplitl [H6]; · iexact H6
  isplitl [H7]; · iexact H7
  isplitl [K0]; · iexact K0
  isplitl [K1]; · iexact K1
  isplitl [V0]; · iexact V0
  isplitl [V1]; · iexact V1
  isplitl [LK0 ZK0]; · isplitl [LK0] <;> iassumption
  isplitl [LK1 ZK1]; · isplitl [LK1] <;> iassumption
  isplitl [LK2 ZK2]; · isplitl [LK2] <;> iassumption
  isplitl [LK3 ZK3]; · isplitl [LK3] <;> iassumption
  isplitl [LK4 ZK4]; · isplitl [LK4] <;> iassumption
  isplitl [LK5 ZK5]; · isplitl [LK5] <;> iassumption
  isplitl [LK6 ZK6]; · isplitl [LK6] <;> iassumption
  isplitl [LK7 ZK7]; · isplitl [LK7] <;> iassumption
  isplitl [LV0 ZV0]; · isplitl [LV0] <;> iassumption
  isplitl [LV1 ZV1]; · isplitl [LV1] <;> iassumption
  isplitl [LV2 ZV2]; · isplitl [LV2] <;> iassumption
  isplitl [LV3 ZV3]; · isplitl [LV3] <;> iassumption
  isplitl [LV4 ZV4]; · isplitl [LV4] <;> iassumption
  isplitl [LV5 ZV5]; · isplitl [LV5] <;> iassumption
  isplitl [LV6 ZV6]; · isplitl [LV6] <;> iassumption
  isplitl [LV7 ZV7]; · isplitl [LV7] <;> iassumption
  isplitl [W0]; · iexact W0
  isplitl [W1]; · iexact W1
  isplitl [W2]; · iexact W2
  iexact W3

theorem xsl_any (c : Dev nD) (j : Fin 4) : xsl I c j fullShare ⊢ xany c j := by
  unfold xsl xany; exact exists_intro (Φ := fun f => iprop((xslM j).view.loc (c : Thread nD τ) ↦[(xslM j).view.set]{fullShare} f)) _
theorem ssl_any (c : Dev nD) (s : Fin 3) : ssl I c s ⊢ sany c s := by
  unfold ssl sany; exact exists_intro (Φ := fun f => iprop((sndslM s).view.loc (c : Thread nD τ) ↦[(sndslM s).view.set]{fullShare} f)) _
theorem rsl_any (c : Dev nD) (s : Fin 3) : rsl I c s ⊢ rany c s := by
  unfold rsl rany; exact exists_intro (Φ := fun f => iprop((rcvslM s).view.loc (c : Thread nD τ) ↦[(rcvslM s).view.set]{fullShare} f)) _

/-- What the body leaves, gathered again. -/
theorem post_close (c : Dev nD) :
    bodyPost I c ⊢ iprop(Φ₁ c ∗ OW c 8 ∗ hw c cc0_stg0_0 fullShare (I.x c) ∗ hw c cc0_stg1_0 fullShare (I.wq c)
      ∗ hw c cc0_stg2_0 fullShare (I.wo c) ∗ hw c cc0_stg3_0 fullShare (OUT I c)) := by
  unfold bodyPost ATst KBst VBst
  iintro ⟨HO, W0, W1, W2, W3, ZB, Z0, Z1, Z2, Z3, Z4, Z5, Z6, Z7, Z8, Z9, Z10, Z11, XA, XA2, XB, XB2, XC, XC2, XD, S0, S1, S2, R0, R1, R2, ⟨%fa, -, HA⟩, ⟨%fk, -, HK⟩, ⟨%fv, -, HV⟩, H6, H7, K0, K1, V0, V1, ZK0, ZK1, ZK2, ZK3, ZK4, ZK5, ZK6, ZK7, ZV0, ZV1, ZV2, ZV3, ZV4, ZV5, ZV6, ZV7⟩
  ihave XA := (xsl_join I c (back 0 c)) $$ [XA XA2]
  · isplitl [XA] <;> iassumption
  ihave XB := (xsl_join I c (back 1 c)) $$ [XB XB2]
  · isplitl [XB] <;> iassumption
  ihave XC := (xsl_join I c (back 2 c)) $$ [XC XC2]
  · isplitl [XC] <;> iassumption
  unfold Φ₁ xzs kvzs scrIn
  isplitr [HO W0 W1 W2 W3]
  · isplitl [ZB]; · iexact ZB
    isplitl [Z0 Z1 Z2 Z3 Z4 Z5 Z6 Z7 Z8 Z9 Z10 Z11 ZK0 ZK1 ZK2 ZK3 ZK4 ZK5 ZK6 ZK7 ZV0 ZV1 ZV2 ZV3 ZV4 ZV5 ZV6 ZV7]
    · isplitl [Z0 Z1 Z2 Z3 Z4 Z5 Z6 Z7 Z8 Z9 Z10 Z11]
      · iframe Z0 Z1 Z2 Z3 Z4 Z5 Z6 Z7 Z8 Z9 Z10 Z11
      iframe ZK0 ZK1 ZK2 ZK3 ZK4 ZK5 ZK6 ZK7 ZV0 ZV1 ZV2 ZV3 ZV4 ZV5 ZV6 ZV7
    isplitl [XA]; · iapply (xsl_any I c _); iexact XA
    isplitl [XB]; · iapply (xsl_any I c _); iexact XB
    isplitl [XC]; · iapply (xsl_any I c _); iexact XC
    isplitl [XD]; · iapply (xsl_any I c _); iexact XD
    isplitl [R0]; · iapply (rsl_any I c _); iexact R0
    isplitl [R1]; · iapply (rsl_any I c _); iexact R1
    isplitl [R2]; · iapply (rsl_any I c _); iexact R2
    isplitl [S0]; · iapply (ssl_any I c _); iexact S0
    isplitl [S1]; · iapply (ssl_any I c _); iexact S1
    isplitl [S2]; · iapply (ssl_any I c _); iexact S2
    isplitl [HA]; · iexists _; iexact HA
    isplitl [HK]; · iexists _; iexact HK
    isplitl [HV]; · iexists _; iexact HV
    isplitl [H6]; · iexists _; iexact H6
    isplitl [H7]; · iexists _; iexact H7
    isplitl [K0]; · iexact K0
    isplitl [K1]; · iexact K1
    isplitl [V0] <;> iassumption
  isplitl [HO]; · iexact HO
  isplitl [W0]; · iexact W0
  isplitl [W1]; · iexact W1
  isplitl [W2] <;> iassumption

theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

theorem fetch_in (t : Fin cfg0.N) : (cfg0.win (0 : Fin 4)).fetch t = true ∧ (cfg0.win (1 : Fin 4)).fetch t = true
    ∧ (cfg0.win (2 : Fin 4)).fetch t = true := by rw [fin_N t]; exact ⟨rfl, rfl, rfl⟩

theorem before_0 (c : Dev nD) (d) : (dats m ρ 0 c).before (0 : Fin 4) t₀ d = (insOf m).x c := by
  unfold Dat.before; rw [if_pos (fetch_in t₀).1]; rfl
theorem before_1 (c : Dev nD) (d) : (dats m ρ 0 c).before (1 : Fin 4) t₀ d = (insOf m).wq c := by
  unfold Dat.before; rw [if_pos (fetch_in t₀).2.1]; rfl
theorem before_2 (c : Dev nD) (d) : (dats m ρ 0 c).before (2 : Fin 4) t₀ d = (insOf m).wo c := by
  unfold Dat.before; rw [if_pos (fetch_in t₀).2.2]; rfl

def obPre (c : Dev nD) : sProp 𝕄 :=
  iprop(Φ₀ (insOf m) c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def obPost (c : Dev nD) : sProp 𝕄 :=
  iprop(Φ₁ c ∗ (dats m ρ 0 c).owesAt () t₀.succ ∗ stg c cc0_stg0_0 ((insOf m).x c) ∗ stg c cc0_stg1_0 ((insOf m).wq c)
    ∗ stg c cc0_stg2_0 ((insOf m).wo c) ∗ stg c cc0_stg3_0 (OUT (insOf m) c))

theorem ob_pre (c : Dev nD) : obPre m ρ c ⊢ iprop(∃ K, bodyPre (insOf m) K c) := by
  unfold obPre Φ₀ start G'
  simp only [before_0, before_1, before_2]
  unfold Dat.owesAt Pipeline.owesWithin
  rw [show (dats m ρ 0 c).owed t₀.castSucc = OL c 0 from rfl]
  iintro ⟨⟨⟨⟨%K, Hg⟩, Hs⟩, Hscr⟩, ⟨%W, -, HO⟩, ⟨%d0, %f0, %e0, W0⟩, ⟨%d1, %f1, %e1, W1⟩, ⟨%d2, %f2, %e2, W2⟩, ⟨%d3, %f3, -, W3⟩⟩
  subst e0; subst e1; subst e2
  iexists K
  iapply (pre_open (insOf m) K c)
  isplitl [Hg]; · iexact Hg
  isplitl [Hs]; · iexact Hs
  isplitl [Hscr]; · iexact Hscr
  isplitl [HO]; · iapply (OW_intro c 0 W); iexact HO
  isplitl [W0]; · iexact W0
  isplitl [W1]; · iexact W1
  isplitl [W2]; · iexact W2
  iexists f3; iexact W3

theorem ob_post (c : Dev nD) : bodyPost (insOf m) c ⊢ obPost m ρ c := by
  refine (post_close (insOf m) c).trans ?_
  unfold obPost Dat.owesAt Pipeline.owesWithin OW
  rw [show (dats m ρ 0 c).owed t₀.succ = OL c 8 from rfl]
  iintro ⟨HΦ, ⟨%W, HO⟩, W0, W1, W2, W3⟩
  isplitl [HΦ]; · iexact HΦ
  isplitl [HO]
  · iexists W; isplitr; · ipureintro; exact fun _ _ => Or.inl trivial
    iexact HO
  isplitl [W0]
  · iexists _; isplitr; · (ipureintro; rfl)
    iexact W0
  isplitl [W1]
  · iexists _; isplitr; · (ipureintro; rfl)
    iexact W1
  isplitl [W2]
  · iexists _; isplitr; · (ipureintro; rfl)
    iexact W2
  iexists _; isplitr; · (ipureintro; rfl)
  iexact W3

/-- The staging library's obligation on the body, on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show obPre m ρ c ⊢ wp frame (wpE (defs₀ (F := F)) 𝒱₀ c none) Set.univ (atBufs cc0_body) (fun _ => obPost m ρ c)
  refine (ob_pre m ρ c).trans (exists_elim fun K => (body_run (insOf m) K c).trans ?_)
  exact (wp frame (wpE (defs₀ (F := F)) 𝒱₀ c none) Set.univ (atBufs cc0_body)).mono fun _ => ob_post m ρ c

end Cert.RingProof

end
-- ==== Proof.Run.lean ====
/-
# The launch and the run

The launch makes every cell's round, deals the places and the rights to pay around the ring, and dispenses the
credits that match what the devices owe. With the body's obligation this gives the run of the program on the four
devices.
-/
module

public import proofs.«01_k».proof.Proof.Oblig
public import Idealize.ShloMosaic.Lib.Pipeline.CollectiveSegs

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (I : Ins F)

/-! ## The cells and the rights the launch makes -/

/-- The semaphores the kernel owns: the twelve of the transfers and the sixteen of its local copies. -/
abbrev osem : Fin 28 → SemLoc sig := fun i => .dma ⟨4 + i.val, by show _ < 32; omega⟩

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of a device's own cells: its barrier cell's two, and one of each transfer cell. -/
abbrev tokOf (cj : Dev nD × (Bool ⊕ Fin 12)) : GSem nD τ sig × ℕ × Bool :=
  match cj.2 with
  | .inl b => (barCell cj.1, 0, b)
  | .inr i => (xCell cj.1 i, 0, false)
theorem tokOf_injective : Function.Injective tokOf := by
  rintro ⟨c, j⟩ ⟨c', j'⟩ h
  have h1 : c = c' := by
    have := congrArg (fun x : GSem nD τ sig × ℕ × Bool => x.1.1.1) h
    rcases j with b | i <;> rcases j' with b' | i' <;> exact this
  subst h1
  have hs := congrArg (fun x : GSem nD τ sig × ℕ × Bool => x.1.2) h
  have hb := congrArg (fun x : GSem nD τ sig × ℕ × Bool => x.2.2) h
  rcases j with b | i <;> rcases j' with b' | i'
  · rw [show b = b' from hb]
  · exact absurd hs (fun h' => by cases h')
  · exact absurd hs (fun h' => by cases h')
  · rw [show i = i' from xsem_injective (SemLoc.dma.inj hs)]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- What the launch's element deals device `c`. -/
def G (c : Dev nD) : sProp 𝕄 :=
  iprop((bigSep Finset.univ fun k : Fin 13 => roundState ER (ringRd I) (kcell (c, k)) 0)
    ∗ (bigSep Finset.univ fun k : Fin 13 => iprop(atPos ER (kcell (c, k)) 0 ∅ 0 ∗ reached ER (kcell (c, k)) 0)) ∗ toks c)

theorem toks_eq (c : Dev nD) :
    (bigSep Finset.univ fun j : Bool ⊕ Fin 12 => (dutyTok ER (tokOf (c, j)).1 (tokOf (c, j)).2.1 (tokOf (c, j)).2.2 : sProp 𝕄)) = toks c := by
  rw [bigSep_univ_eq_bigSepL ([.inl false, .inl true, .inr 0, .inr 1, .inr 2, .inr 3, .inr 4, .inr 5, .inr 6, .inr 7, .inr 8, .inr 9, .inr 10, .inr 11] : List (Bool ⊕ Fin 12)) (by decide) (by decide)]; rfl

theorem fund_ring : BI.own (ER (initOf ringCells ringToks)) ⊢ (|==> bigSep Finset.univ (G I) : sProp 𝕄) := by
  have hX (Φ : GSem nD τ sig → sProp 𝕄) :
      bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd I) ringCells ringToks) $$ HX with ⟨Hst, Hr, Hat, Htok⟩
  imodintro
  ihave Hst := (Entails.of_eq (hX fun g => roundState ER (ringRd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The counters -/

theorem ownSems0_eq (c : Dev nD) : (Pipeline.ownSems0 (Ix := Unit) (Name := ℕ) (U := UU) (Lvl := ℕ) (Val := Elt F) (τ := τ) osem c : sProp 𝕄)
    ⊣⊢ iprop(xzs c ∗ kvzs c) := by
  rw [Pipeline.ownSems0_eq_of_list c osem [0, 1, 2, 3, 4, 5, 22, 23, 24, 25, 26, 27, 6, 7, 8, 9, 10, 11, 12, 13, 14, 15, 16, 17, 18, 19, 20, 21] (by decide) (by decide)]
  unfold xzs kvzs
  have e : (bigSepL [0, 1, 2, 3, 4, 5, 22, 23, 24, 25, 26, 27, 6, 7, 8, 9, 10, 11, 12, 13, 14, 15, 16, 17, 18, 19, 20, 21] fun k => (semVal ((c.tc : Thread nD τ), osem k) 0 : sProp 𝕄))
      = iprop(XZ c (agS 0) ∗ XZ c (agS 1) ∗ XZ c (agS 2) ∗ XZ c (agR 0) ∗ XZ c (agR 1) ∗ XZ c (agR 2) ∗ XZ c (rsS 0) ∗ XZ c (rsS 1) ∗
        XZ c (rsS 2) ∗ XZ c (rsR 0) ∗ XZ c (rsR 1) ∗ XZ c (rsR 2) ∗ KZ c 0 ∗ KZ c 1 ∗ KZ c 2 ∗ KZ c 3 ∗ KZ c 4 ∗ KZ c 5 ∗ KZ c 6 ∗
        KZ c 7 ∗ VZ c 0 ∗ VZ c 1 ∗ VZ c 2 ∗ VZ c 3 ∗ VZ c 4 ∗ VZ c 5 ∗ VZ c 6 ∗ VZ c 7) := rfl
  rw [e]
  constructor
  · iintro ⟨Z0, Z1, Z2, Z3, Z4, Z5, Z6, Z7, Z8, Z9, Z10, Z11, K0, K1, K2, K3, K4, K5, K6, K7, V0, V1, V2, V3, V4, V5, V6, V7⟩
    isplitl [Z0 Z1 Z2 Z3 Z4 Z5 Z6 Z7 Z8 Z9 Z10 Z11]
    · iframe Z0 Z1 Z2 Z3 Z4 Z5 Z6 Z7 Z8 Z9 Z10 Z11
    iframe K0 K1 K2 K3 K4 K5 K6 K7 V0 V1 V2 V3 V4 V5 V6 V7
  · iintro ⟨⟨Z0, Z1, Z2, Z3, Z4, Z5, Z6, Z7, Z8, Z9, Z10, Z11⟩, K0, K1, K2, K3, K4, K5, K6, K7, V0, V1, V2, V3, V4, V5, V6, V7⟩
    iframe Z0 Z1 Z2 Z3 Z4 Z5 Z6 Z7 Z8 Z9 Z10 Z11 K0 K1 K2 K3 K4 K5 K6 K7 V0 V1 V2 V3 V4 V5 V6 V7

theorem unscopedSems0_eq (c : Dev nD) : (unscopedSems0 c : sProp 𝕄) = semVal (barCell c) 0 := by
  unfold unscopedSems0; rw [bigSep_eq_bigSepL_of_eq [SemLoc.reg barS] (by decide) (by decide)]; rfl

theorem cells_zero (c : Dev nD) :
    iprop(xzs c ∗ semVal (barCell c) 0) ⊢ (bigSep Finset.univ fun k : Fin 13 => semVal (kcell (c, k)) 0 : sProp 𝕄) := by
  rw [bigSep_13]
  unfold xzs
  iintro ⟨HX, HB⟩
  isplitl [HB]; · iexact HB
  iexact HX

/-! ## The invariants -/

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (ringRd I) κ (kcell (c, k))))
          ∗ (bigSep Finset.univ fun k => iprop(atPos ER (kcell (c, k)) 0 ∅ 0 ∗ reached ER (kcell (c, k)) 0)) ∗ toks c ∗ kvzs c) := by
  rw [unscopedSems0_eq]
  unfold G
  iintro ⟨Hos, Hus, Hst, Hat, Htok⟩
  ihave Hos := (ownSems0_eq (F := F) c).1 $$ Hos
  icases Hos with ⟨Hx, Hkv⟩
  ihave Hv := (cells_zero (F := F) c) $$ [Hx Hus]
  · isplitl [Hx] <;> iassumption
  imod (show iprop((bigSep Finset.univ fun k : Fin 13 => semVal (kcell (c, k)) 0) ∗ bigSep Finset.univ fun k : Fin 13 => roundState ER (ringRd I) (kcell (c, k)) 0)
      ⊢ (|={Set.univ}=> bigSep Finset.univ fun k => iprop(∃ κ : ℕ, cellInv ER (ringRd I) κ (kcell (c, k))) : sProp 𝕄) from by
        rw [← bigSep_sep']
        exact (bigSep_mono fun k _ => (Rounds.body_intro ER (ringRd I) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The rights dealt around the ring. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (XT (F := F) c (agR 0) : sProp 𝕄)),
    bigSep_univ_equiv ring (fun c : Dev nD => (XT (F := F) c (agR 1) : sProp 𝕄)),
    bigSep_univ_equiv ring (fun c : Dev nD => (XT (F := F) c (agR 2) : sProp 𝕄)),
    bigSep_univ_equiv ring (fun c : Dev nD => (XT (F := F) c (rsR 0) : sProp 𝕄)),
    bigSep_univ_equiv ring (fun c : Dev nD => (XT (F := F) c (rsR 1) : sProp 𝕄)),
    bigSep_univ_equiv ring (fun c : Dev nD => (XT (F := F) c (rsR 2) : sProp 𝕄))]
  iintro ⟨H0, H1, H2, H3, H4, H5, H6, H7, H8, H9, H10, H11, H12, H13⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- What every device shares may be used for each. -/
theorem each {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd I) κ (kcell (c, k))))
          ∗ (bigSep Finset.univ fun k => iprop(atPos ER (kcell (c, k)) 0 ∅ 0 ∗ reached ER (kcell (c, k)) 0)) ∗ toks c ∗ kvzs c) : sProp 𝕄)
      ⊢ bigSep Finset.univ (G' I) := by
  rw [bigSep_sep', bigSep_sep', bigSep_sep', ← bigSep_univ_prod (fun ck : Dev nD × Fin 13 => iprop(∃ κ : ℕ, cellInv ER (ringRd I) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, HR⟩, Htok, Hkv⟩
  ihave HK := (BI.bigSep_exists_pi Finset.univ (fun (ck : Dev nD × Fin 13) (κ : ℕ) => (cellInv ER (ringRd I) κ (kcell ck) : sProp 𝕄))) $$ HI
  icases HK with ⟨%K, HI⟩
  ihave Htk := (toks_around (F := F)) $$ Htok
  iapply (each (R := recs I K) (Φ := fun c => lin (F := F) c) fun c _ => show iprop(recs I K ∗ lin c) ⊢ G' I c from by
    unfold G'; exact exists_intro (Φ := fun K => iprop(recs I K ∗ lin c)) K)
  isplitl [HI HR]
  · unfold recs; rw [bigSep_sep']; isplitl [HI] <;> iassumption
  · unfold lin; rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credit at launch -/

theorem bar_eq_iff {a b : Dev nD} : (barCell a = barCell b) ↔ (a = b) :=
  ⟨fun h => congrArg (fun g : GSem nD τ sig => g.1.1) h, fun h => h ▸ rfl⟩
theorem x_eq_iff {a b : Dev nD} {i j : Fin 12} : (xCell a i = xCell b j) ↔ (a = b ∧ i = j) :=
  ⟨fun h => ⟨congrArg (fun g : GSem nD τ sig => g.1.1) h, xsem_injective (SemLoc.dma.inj (congrArg (fun g : GSem nD τ sig => g.2) h))⟩,
    fun h => by rw [h.1, h.2]⟩
theorem bar_ne_x (a b : Dev nD) (i : Fin 12) : barCell a ≠ xCell b i := fun h => by
  have := congrArg (fun g : GSem nD τ sig => g.2) h
  cases this

theorem nxt_eq_iff (c d : Dev nD) : (c = nxt d) ↔ (d = prv c) :=
  ⟨fun h => by rw [h, prv_nxt], fun h => by rw [h, nxt_prv]⟩
theorem prv_eq_iff (c d : Dev nD) : (c = prv d) ↔ (d = nxt c) :=
  ⟨fun h => by rw [h, nxt_prv], fun h => by rw [h, prv_nxt]⟩

theorem owedOf_cons (p : GSem nD τ sig × ℕ) (l : List (GSem nD τ sig × ℕ)) (g : GSem nD τ sig) :
    owedOf (p :: l) g () = owedOf l g () + (if g = p.1 then p.2 else 0) := by
  show (owedOf l + tallyAt p.1 () p.2) g () = _
  rw [Pi.add_apply, Finsupp.add_apply, tallyAt_apply]
  simp only [and_true]
theorem owedOf_nil (g : GSem nD τ sig) : owedOf [] g () = 0 := rfl

theorem owed_bar (d c : Dev nD) : OL d 0 (barCell c) () = (if d = prv c then 1 else 0) + (if d = nxt c then 1 else 0) := by
  have h1 : (c = nxt d) = (d = prv c) := propext (nxt_eq_iff c d)
  have h2 : (c = prv d) = (d = nxt c) := propext (prv_eq_iff c d)
  unfold OL dues
  simp only [List.drop_zero, owedOf_cons, owedOf_nil, bar_eq_iff, bar_ne_x, if_false, Nat.zero_add, h1, h2]

theorem owed_x (d c : Dev nD) (i : Fin 12) (hi : i ∈ [agR 0, agR 1, agR 2, rsR 0, rsR 1, rsR 2]) :
    OL d 0 (xCell c i) () = if d = prv c then N else 0 := by
  have hb : ∀ a, (xCell c i = barCell a) = False := fun a => eq_false fun h => bar_ne_x _ _ _ h.symm
  unfold OL dues
  simp only [List.drop_zero, owedOf_cons, owedOf_nil, x_eq_iff, hb, if_false, Nat.zero_add, Nat.add_zero, nxt_eq_iff]
  by_cases h : d = prv c
  · simp only [List.mem_cons, List.not_mem_nil, or_false] at hi
    rcases hi with rfl | rfl | rfl | rfl | rfl | rfl <;> simp [h]
  · simp [h]

theorem launch_bar (c : Dev nD) :
    tallyOn (barCell c) (launchCredit (Pipeline.owing fun c => OL c 0) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_x (c : Dev nD) (i : Fin 12) (hi : i ∈ [agR 0, agR 1, agR 2, rsR 0, rsR 1, rsR 2]) :
    tallyOn (xCell c i) (launchCredit (Pipeline.owing fun c => OL c 0) 0 (xCell c i)) = (tallyAt (xCell c i) () N : CellTallies nD τ sig Unit) := by
  unfold tallyAt; refine congrArg _ (Finsupp.ext fun u => ?_); cases u
  rw [Pipeline.launchCredit_owing, Finsupp.single_eq_same, Finset.sum_congr rfl fun d _ => owed_x d c i hi, Finset.sum_ite_eq' Finset.univ (prv c) fun _ => N,
    if_pos (Finset.mem_univ _)]

theorem creds_intro (c : Dev nD) : (Pipeline.launchCred (fun c => OL c 0) c : sProp 𝕄) ⊢ creds c := by
  unfold Pipeline.launchCred creds
  refine (BI.bigSep_subset (Finset.subset_univ
    ([SemLoc.reg barS, .dma (xsem (agR 0)), .dma (xsem (agR 1)), .dma (xsem (agR 2)), .dma (xsem (rsR 0)), .dma (xsem (rsR 1)),
      .dma (xsem (rsR 2))] : List (SemLoc sig)).toFinset)).trans ?_
  rw [bigSep_eq_bigSepL_of_eq _ rfl (by decide)]
  show iprop(cred (tallyOn (barCell c) _) ∗ cred (tallyOn (xCell c (agR 0)) _) ∗ cred (tallyOn (xCell c (agR 1)) _)
    ∗ cred (tallyOn (xCell c (agR 2)) _) ∗ cred (tallyOn (xCell c (rsR 0)) _) ∗ cred (tallyOn (xCell c (rsR 1)) _)
    ∗ cred (tallyOn (xCell c (rsR 2)) _)) ⊢ _
  rw [launch_bar c, launch_x c (agR 0) (by decide), launch_x c (agR 1) (by decide), launch_x c (agR 2) (by decide),
    launch_x c (rsR 0) (by decide), launch_x c (rsR 1) (by decide), launch_x c (rsR 2) (by decide)]

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred (fun c => OL c 0) c ∗ prngReg c (ρ c) ∗ G' (insOf m) c)
      ⊢ |={Set.univ}=> iprop(start (insOf m) c ∗ kept (insOf m) c) := by
  rw [Pipeline.unscopedRestP_none, show cfg0.spec = spec0 from rfl, unscopedRest0_eq]
  iintro ⟨⟨H2, H3⟩, Hlev, Hcr, -, HG⟩
  ihave Hc := (creds_intro (F := F) c) $$ Hcr
  ihave H2 := (lend (m ((c : Thread nD τ).loc main_arg2)) 10 (by decide)) $$ H2
  ihave H3 := (lend (m ((c : Thread nD τ).loc main_arg3)) 18 (by decide)) $$ H3
  icases H2 with ⟨D2, T2⟩
  icases H3 with ⟨D3, T3⟩
  imodintro
  unfold start lent kept
  isplitl [HG Hlev Hc T2 T3]
  · isplitl [HG]; · iexact HG
    isplitl [Hlev]; · iexact Hlev
    isplitl [Hc]; · iexact Hc
    isplitl [T2]; · iexact T2
    iexact T3
  isplitl [D2]; · iexact D2
  iexact D3

theorem phi0_intro (c : Dev nD) :
    iprop(start (insOf m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (insOf m) c from rfl]
  unfold Φ₀
  iintro ⟨Hs, -, Hr⟩
  isplitl [Hs]; · iexact Hs
  iapply (scr_in (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁
  iintro ⟨HB, HZ, Hscr⟩
  isplitl [HB]; · iexact HB
  isplitl [HZ]
  · iapply (ownSems0_eq (F := F) c).2; iexact HZ
  iapply (scr_out (F := F) c); iexact Hscr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_local c 0 _ (by fin_cases w <;> fin_cases s <;> rfl)
    · exact mayWait_local c 8 _ (by fin_cases w <;> fin_cases s <;> rfl)

/-- What is kept of the keys and values shows their arrays unchanged. -/
theorem kept_read (c : Dev nD) (s' : Phys nD τ sig (Elt F)) :
    iprop(kept (insOf m) c ∗ SI s') ⊢ (iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') : sProp 𝕄) := by
  unfold kept
  iintro ⟨⟨H2, H3⟩, HSI⟩
  icombine HSI H2 gives %h2
  icombine HSI H3 gives %h3
  isplitr
  · ipureintro; exact ⟨Buf.eq_of_forall_mem_univ h2, Buf.eq_of_forall_mem_univ h3⟩
  iexact HSI

/-! ## The run -/

/-- What the run leaves: each result array at the staged result, every argument array as it was. -/
def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg2) = m ((c : Thread nD τ).loc main_arg2)
    ∧ r.2.mem ((c : Thread nD τ).loc main_arg3) = m ((c : Thread nD τ).loc main_arg3)

set_option maxRecDepth 8000 in
/-- On four devices, for any float values, from any memory with zero counters: every weakly fair execution of the
    program terminates, and leaves what `QC` says and every semaphore's counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => OL c 0) (howed₀ := fun _ => rfl) (howedN := fun _ => rfl)
    (L := L) (lv := lv) (hL := L_of_ne) (hwaits := waits m ρ)
    (G := G (insOf m)) (G' := G' (insOf m)) (u₀ := u₀)
    (hu₀ := by
      unfold u₀
      iintro Hu
      ihave H := (ownU_pair _ _) $$ Hu
      icases H with ⟨HP, HX⟩
      ihave HX := (show (BI.own (embR (initOf ringCells ringToks, (1 : Counters))) : sProp 𝕄) ⊢ BI.own (ER (initOf ringCells ringToks)) from
        BI.Entails.refl _) $$ HX
      imod (fund_ring (insOf m)) $$ HX with HG
      imodintro
      isplitl [HP] <;> iassumption)
    (hglob := glob (insOf m))
    (hA := fun _ _ => rfl) (hpf := fun _ k => k.elim0)
    (X := start (insOf m)) (Y := fun c => unscopedSems0 c) (Z := kept (insOf m))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => by
      iintro ⟨Hu, Hk, HSI⟩
      ihave H := (kept_read m c s') $$ [Hk HSI]
      · isplitl [Hk] <;> iassumption
      icases H with ⟨%hk, HSI⟩
      imod (Pipeline.unscopedSems0_read (X := unscopedSems0 c) (c := c) fupd_intro s') $$ [Hu HSI] with ⟨%hz, HSI⟩
      · isplitl [Hu] <;> iassumption
      imodintro
      isplitr; · ipureintro; exact ⟨hz, hk⟩
      iexact HSI)
    (hQ := fun _ h hs => ⟨fun c => ⟨(h c).1, (h c).2.2.2⟩, sem_eq_zero hs fun c => (h c).2.2.1⟩)

/-- A window read in leaves its array as it was. -/
theorem arr_in (c : Dev nD) (w : Fin 4) (h : w ≠ 3) :
    (dats m ρ 0 c).arrAt w cfg0.N = m ((cfg0.win w).arr.view.loc (c : Thread nD τ)) := by
  fin_cases w
  · exact (dats (F := F) m ρ 0 c).arrAt_in (0 : Fin 4) rfl _
  · exact (dats (F := F) m ρ 0 c).arrAt_in (1 : Fin 4) rfl _
  · exact (dats (F := F) m ρ 0 c).arrAt_in (2 : Fin 4) rfl _
  · exact absurd rfl h

end Cert.RingProof

end
-- ==== Proof.Frames.lean ====
/-
# The frames

The kernel's run over any float values gives the frame of the kernel as written and of its idealized form; the
reference is a line of array operations.
-/
module

public import proofs.«01_k».proof.Defs
public import proofs.«01_k».proof.Proof.Run
public import proofs.«01_k».proof.Proof.Gen.Kernel
public import proofs.«01_k».proof.Proof.Gen.ReferenceIdeal
public import Idealize.ShloMosaic.Lib.Claim

@[expose] public section

set_option maxRecDepth 16384

noncomputable section

namespace Cert.RingProof

open Idealize.ShloMosaic Idealize.SL.Sem
open Idealize.ShloMosaic.TcCoe

/-- Over any float values the kernel runs to its end, leaving every argument as it was and every semaphore at zero. -/
theorem frame_any {F : FTy → Type} [FloatOps F] (m : (ℓ : Loc KernelIdeal.nD KernelIdeal.τ KernelIdeal.sig) → Buf (Elt F) ℓ) (ρ : Dev KernelIdeal.nD → PrngReg) :
    θ_run (Val := Elt F) KernelIdeal.defs (onTc (τ := KernelIdeal.τ) KernelIdeal.main) ⟨m, fun _ => 0, ρ⟩ (fun r =>
      (∀ c : Dev KernelIdeal.nD,
        r.2.mem (c.tc.loc KernelIdeal.main_arg0) = m (c.tc.loc KernelIdeal.main_arg0) ∧
        r.2.mem (c.tc.loc KernelIdeal.main_arg1) = m (c.tc.loc KernelIdeal.main_arg1) ∧
        r.2.mem (c.tc.loc KernelIdeal.main_arg2) = m (c.tc.loc KernelIdeal.main_arg2) ∧
        r.2.mem (c.tc.loc KernelIdeal.main_arg3) = m (c.tc.loc KernelIdeal.main_arg3) ∧
        r.2.mem (c.tc.loc KernelIdeal.main_arg4) = m (c.tc.loc KernelIdeal.main_arg4)) ∧
      r.2.sem = fun _ => 0) :=
  θ_run_mono (run_main m ρ) fun r h => ⟨fun c =>
    ⟨((h.1 c).1 0).trans (arr_in m ρ c 0 (by decide)), ((h.1 c).1 1).trans (arr_in m ρ c 1 (by decide)), (h.1 c).2.1, (h.1 c).2.2,
      ((h.1 c).1 2).trans (arr_in m ρ c 2 (by decide))⟩, h.2⟩

/-- The idealized kernel's frame; -/
theorem frame_ideal : Cert.quiescent_KernelIdeal (hKernelIdeal := Cert.KernelIdeal.Gen.facts) := fun m ρ _ => frame_any m ρ

/-- The kernel as written has the same bodies as its idealized form, -/
theorem bodies_eq : Kernel.defs₀ (F := Bits) = KernelIdeal.defs₀ := by
  refine congrArg Defs.onTc (funext fun k => funext fun a => ?_)
  match k, a with
  | ⟨0, _⟩, (t, s) => rfl

/-- and the same table of bodies and pipelines, -/
theorem defs_eq : Kernel.defs (F := Bits) = KernelIdeal.defs :=
  congrArg (Pipeline.defs Kernel.pcfgs) bodies_eq

/-- so its frame is that of the idealized form; -/
theorem frame_kernel : Cert.quiescent_Kernel (hKernel := Cert.Kernel.Gen.facts) := fun m ρ _ => by
  rw [defs_eq]
  exact frame_any (F := Bits) m ρ

/-- The reference has no semaphore, -/
theorem reference_no_sem (s : SemLoc ReferenceIdeal.sig) : False := by
  rcases s with s | s
  · exact s.elim0
  · exact s.elim0

/-- and runs to its end leaving its arguments as they were. -/
theorem frame_reference : Cert.quiescent_ReferenceIdeal (hReferenceIdeal := Cert.ReferenceIdeal.Gen.facts) := by
  intro m ρ _
  hlo_run
  · exact fun _ => ⟨trivial, trivial, trivial, trivial, trivial⟩
  funext g
  exact (reference_no_sem g.2).elim

end Cert.RingProof

end
-- ==== Proof.KValue.lean ====
/-
# The kernel's values at an index

Over the extended reals: what the kernel's buffers hold, as sums and exponentials of the inputs.
-/
module

public import proofs.«01_k».proof.Proof.Contents
public import Idealize.ShloMosaic.Lib.Pointwise

@[expose] public section

set_option maxRecDepth 16384

noncomputable section

namespace Cert.RingProof

open Cert.KernelIdeal Cert.KernelIdeal.Gen
open Idealize.ShloMosaic
open Idealize.ShloMosaic.TcCoe

/-- The scale of the scores, as the number its word is. -/
def SC : EReal := Ideal.ofBits .f32 0x3DB504F3#32

variable (I : Ins Ideal)

/-- The queries of device `c` for the rows of device `j`. -/
theorem QB_at (c j : Dev nD) (r : Fin 256) (t : Fin 1024) :
    QB I c j (ix2 r t) = (∑ e : Fin 1024, I.x j (ix3 0 r e) * I.wq c (ix2 e t)) * SC := by
  unfold QB XB WQ SC
  pointwise [k0_pay1, k0_pay3, k0_pay4]

/-- A head's keys or values, cast on landing. -/
theorem KB_at (f : S1x4096x32x128.Idx → Elt Ideal .f32) (c : Dev nD) (h : Fin 8) (j : Fin 4096) (t : Fin 128) (hh : 8 * c.val + h.val < 32) :
    k0_pay5 (headOf f c h) (ix3 0 j t) = f (ix4 0 j ⟨8 * c.val + h.val, hh⟩ t) := by
  pointwise [k0_pay5, headOf]

/-- The exponentials of a head's scores. -/
theorem headP_at (h : Fin 8) (qb : FVec Ideal S256x1024 .bf16) (k : Vec Ideal S1x4096x128 .bf16) (r : Fin 256) (j : Fin 4096) (hb : ∀ t : Fin 128, 128 * h.val + t.val < 1024) :
    headP h qb k (ix2 r j) = Ideal.exp (∑ t : Fin 128, qb (ix2 r ⟨128 * h.val + t.val, hb t⟩) * k (ix3 0 j t)) := by
  pointwise [headP]

/-- A head's output. -/
theorem headOut_at (h : Fin 8) (qb : FVec Ideal S256x1024 .bf16) (k v : Vec Ideal S1x4096x128 .bf16) (r : Fin 256) (t : Fin 128) :
    headOut h qb k v (ix2 r t) =
      Ideal.div (∑ j : Fin 4096, headP h qb k (ix2 r j) * v (ix3 0 j t)) (∑ j : Fin 4096, headP h qb k (ix2 r j)) := by
  pointwise [headOut]

/-- A product with a device's rows of the output projection. -/
theorem pay44_at (a : Vec Ideal S256x1024 .bf16) (w : Vec Ideal S1024x1024 .bf16) (r : Fin 256) (t : Fin 1024) :
    k0_pay44 a w (ix3 0 r t) = ∑ p : Fin 1024, a (ix2 r p) * w (ix2 p t) := by
  pointwise [k0_pay44]

/-- The same, added to what came from the neighbour. -/
theorem pay77_at (a : Vec Ideal S256x1024 .bf16) (w : Vec Ideal S1024x1024 .bf16) (s : Vec Ideal S1x256x1024 .bf16) (r : Fin 256) (t : Fin 1024) :
    k0_pay77 a w s (ix3 0 r t) = (∑ p : Fin 1024, a (ix2 r p) * w (ix2 p t)) + s (ix3 0 r t) := by
  pointwise [k0_pay77]

theorem pay78_at (a : Vec Ideal S256x1024 .bf16) (w : Vec Ideal S1024x1024 .bf16) (s : Vec Ideal S1x256x1024 .bf16) (r : Fin 256) (t : Fin 1024) :
    k0_pay78 a w s (ix3 0 r t) = (∑ p : Fin 1024, a (ix2 r p) * w (ix2 p t)) + s (ix3 0 r t) := by
  pointwise [k0_pay78]

end Cert.RingProof

end
-- ==== Proof.Attn.lean ====
/-
# Attention of one query, taken in chunks

Over the extended reals, with finite scores and any values. The mean of the values weighted by the exponentials of
the scores, and the same mean taken over four chunks of keys with a running maximum: both give the same number.
-/
module

public import Idealize.ShloMosaic.Lib.Pointwise

@[expose] public section

noncomputable section

namespace Cert.RingProof

open Idealize.ShloMosaic

/-! ## Sums scaled by a number that is finite and not negative -/

/-- Such a factor goes into a sum. -/
theorem mul_sum {ι : Type} (t : Finset ι) (a : ℝ) (ha : 0 ≤ a) (f : ι → EReal) : (a : EReal) * ∑ i ∈ t, f i = ∑ i ∈ t, (a : EReal) * f i := by
  classical
  induction t using Finset.induction_on with
  | empty => simp
  | insert i t hi ih =>
    rw [Finset.sum_insert hi, Finset.sum_insert hi, EReal.left_distrib_of_nonneg_of_ne_top (EReal.coe_nonneg.mpr ha) (EReal.coe_ne_top a), ih]

/-- The sum of reals, taken among the extended reals. -/
theorem coe_sum {ι : Type} (t : Finset ι) (g : ι → ℝ) : ((∑ i ∈ t, g i : ℝ) : EReal) = ∑ i ∈ t, (g i : EReal) := by
  classical
  induction t using Finset.induction_on with
  | empty => simp
  | insert i t hi ih => rw [Finset.sum_insert hi, Finset.sum_insert hi, EReal.coe_add, ih]

/-- A sum of finite numbers is finite. -/
theorem sum_real {ι : Type} (t : Finset ι) (f : ι → EReal) (hf : ∀ i, ∃ r : ℝ, f i = r) : ∃ r : ℝ, ∑ i ∈ t, f i = r := by
  choose g hg using hf
  exact ⟨∑ i ∈ t, g i, by simp only [hg, coe_sum]⟩

/-- A product of two finite numbers is finite. -/
theorem mul_real {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem exp_real (r : ℝ) : Ideal.exp (r : EReal) = (Real.exp r : EReal) := rfl

/-! ## One chunk -/

/-- The running maximum is finite after a chunk of finite scores. -/
theorem max_real {n : ℕ} (hn : 0 < n) (m : EReal) (hm : m ≠ ⊤) (s : Fin n → EReal) (hs : ∀ k, ∃ r : ℝ, s k = r) :
    ∃ μ : ℝ, max m (Finset.univ.fold max ⊥ s) = μ := by
  have top : Finset.univ.fold max ⊥ s < ⊤ := (Finset.fold_max_lt _).mpr ⟨bot_lt_top, fun k _ => by
    obtain ⟨r, e⟩ := hs k
    rw [e]; exact EReal.coe_lt_top r⟩
  have bot : ⊥ < Finset.univ.fold max ⊥ s := (Finset.lt_fold_max _).mpr (.inr ⟨⟨0, hn⟩, Finset.mem_univ _, by
    obtain ⟨r, e⟩ := hs ⟨0, hn⟩
    rw [e]; exact EReal.bot_lt_coe r⟩)
  have h1 : max m (Finset.univ.fold max ⊥ s) ≠ ⊤ := (max_lt (lt_top_iff_ne_top.mpr hm) top).ne
  have h2 : max m (Finset.univ.fold max ⊥ s) ≠ ⊥ := (lt_of_lt_of_le bot (le_max_right _ _)).ne'
  exact ⟨_, (EReal.coe_toReal h1 h2).symm⟩

/-- A weight against the running maximum is the plain weight scaled. -/
theorem weight (r μ : ℝ) : Ideal.exp ((r : EReal) - μ) = (Real.exp (-μ) : EReal) * (Real.exp r : EReal) := by
  rw [← EReal.coe_sub, exp_real, ← EReal.coe_mul, ← Real.exp_add]
  congr 2
  ring

/-- Rescaling to the new maximum. -/
theorem rescale (μ μ' : ℝ) (A : EReal) : (Real.exp (-μ) : EReal) * A * Ideal.exp ((μ : EReal) - μ') = (Real.exp (-μ') : EReal) * A := by
  rw [weight, mul_right_comm, ← EReal.coe_mul, ← EReal.coe_mul, ← Real.exp_add, ← Real.exp_add]
  congr 3
  ring

/-- The running state: the maximum, and the two sums scaled by it. Before any key the maximum is `⊥` and the sums are zero. -/
def State (m l o A B : EReal) : Prop :=
  (m = ⊥ ∧ l = 0 ∧ o = 0 ∧ A = 0 ∧ B = 0) ∨ ∃ μ : ℝ, m = μ ∧ l = (Real.exp (-μ) : EReal) * A ∧ o = (Real.exp (-μ) : EReal) * B

/-- One chunk of keys: the new maximum, -/
def newMax {n : ℕ} (m : EReal) (s : Fin n → EReal) : EReal := max m (Finset.univ.fold max ⊥ s)
/-- and a sum, of weights times `v`, brought up to date. -/
def newSum {n : ℕ} (m y : EReal) (s v : Fin n → EReal) : EReal :=
  y * Ideal.exp (m - newMax m s) + ∑ k, v k * Ideal.exp (s k - newMax m s)

/-- A chunk of finite scores adds its plain sums. -/
theorem state_step {n : ℕ} (hn : 0 < n) {m l o A B : EReal} (h : State m l o A B) (s v : Fin n → EReal) (hs : ∀ k, ∃ r : ℝ, s k = r) :
    State (newMax m s) (newSum m l s fun _ => 1) (newSum m o s v) (A + ∑ k, Ideal.exp (s k)) (B + ∑ k, v k * Ideal.exp (s k)) := by
  have hm : m ≠ ⊤ := by
    rcases h with ⟨e, -⟩ | ⟨μ, e, -⟩
    · rw [e]; exact bot_ne_top
    · rw [e]; exact EReal.coe_ne_top μ
  obtain ⟨μ', hμ⟩ := max_real hn m hm s hs
  choose r hr using hs
  have up : ∀ (y Y : EReal) (w : Fin n → EReal), y * Ideal.exp (m - μ') = (Real.exp (-μ') : EReal) * Y →
      newSum m y s w = (Real.exp (-μ') : EReal) * (Y + ∑ k, w k * Ideal.exp (s k)) := by
    intro y Y w hy
    have e : newMax m s = μ' := hμ
    unfold newSum
    rw [e, hy, EReal.left_distrib_of_nonneg_of_ne_top (EReal.coe_nonneg.mpr (Real.exp_pos _).le) (EReal.coe_ne_top _), mul_sum _ _ (Real.exp_pos _).le]
    congr 1
    refine Finset.sum_congr rfl fun k _ => ?_
    rw [hr k, weight, exp_real, mul_left_comm]
  have both : l * Ideal.exp (m - μ') = (Real.exp (-μ') : EReal) * A ∧ o * Ideal.exp (m - μ') = (Real.exp (-μ') : EReal) * B := by
    rcases h with ⟨-, rfl, rfl, rfl, rfl⟩ | ⟨μ, rfl, rfl, rfl⟩
    · simp
    · exact ⟨rescale μ μ' A, rescale μ μ' B⟩
  refine .inr ⟨μ', hμ, ?_, ?_⟩
  · rw [up l A (fun _ => 1) both.1]
    simp
  · exact up o B v both.2

/-! ## All keys -/

/-- The weighted mean. -/
def mean {n : ℕ} (s v : Fin n → EReal) : EReal := Ideal.div (∑ j, Ideal.exp (s j) * v j) (∑ j, Ideal.exp (s j))

/-- The two scaled sums have the plain sums' quotient. -/
theorem div_scaled (ε : ℝ) (hε : 0 < ε) (α : ℝ) (hα : 0 < α) (B : EReal) :
    Ideal.div ((ε : EReal) * B) ((ε : EReal) * (α : EReal)) = Ideal.div B α := by
  have h1 : ((ε : EReal) * (α : EReal)) ≠ 0 := by
    rw [← EReal.coe_mul]; exact EReal.coe_ne_zero.mpr (mul_pos hε hα).ne'
  have h2 : (α : EReal) ≠ 0 := EReal.coe_ne_zero.mpr hα.ne'
  unfold Ideal.div
  rw [if_neg h1, if_neg h2, ← EReal.coe_mul, ← EReal.coe_inv, ← EReal.coe_inv, mul_comm (ε : EReal) B, mul_assoc, ← EReal.coe_mul]
  congr 2
  field_simp

/-- A sum over the keys is the sum of the four chunks' sums. -/
theorem sum_chunks (f : Fin 4096 → EReal) : ∑ j, f j = ∑ q : Fin 4, ∑ k : Fin 1024, f ⟨1024 * q.val + k.val, by omega⟩ := by
  rw [← (finProdFinEquiv (m := 4) (n := 1024)).sum_comp f, Fintype.sum_prod_type]
  refine Finset.sum_congr rfl fun q _ => Finset.sum_congr rfl fun k _ => congrArg f (Fin.ext ?_)
  show k.val + 1024 * q.val = 1024 * q.val + k.val
  omega

/-- The chunk of a function of the keys. -/
def chunk (f : Fin 4096 → EReal) (q : Fin 4) : Fin 1024 → EReal := fun k => f ⟨1024 * q.val + k.val, by omega⟩

/-- The mean taken in chunks is the mean. -/
theorem online (s v : Fin 4096 → EReal) (hs : ∀ j, ∃ r : ℝ, s j = r) {m0 l0 o0 m1 l1 o1 m2 l2 o2 m3 l3 o3 m4 l4 o4 : EReal}
    (h0 : m0 = ⊥ ∧ l0 = 0 ∧ o0 = 0)
    (h1 : m1 = newMax m0 (chunk s 0) ∧ l1 = newSum m0 l0 (chunk s 0) (fun _ => 1) ∧ o1 = newSum m0 o0 (chunk s 0) (chunk v 0))
    (h2 : m2 = newMax m1 (chunk s 1) ∧ l2 = newSum m1 l1 (chunk s 1) (fun _ => 1) ∧ o2 = newSum m1 o1 (chunk s 1) (chunk v 1))
    (h3 : m3 = newMax m2 (chunk s 2) ∧ l3 = newSum m2 l2 (chunk s 2) (fun _ => 1) ∧ o3 = newSum m2 o2 (chunk s 2) (chunk v 2))
    (h4 : m4 = newMax m3 (chunk s 3) ∧ l4 = newSum m3 l3 (chunk s 3) (fun _ => 1) ∧ o4 = newSum m3 o3 (chunk s 3) (chunk v 3)) :
    Ideal.div o4 l4 = mean s v := by
  have hc : ∀ q k, ∃ r : ℝ, chunk s q k = r := fun q k => hs _
  obtain ⟨rfl, rfl, rfl⟩ := h0
  have t1 := state_step (n := 1024) (by decide) (m := ⊥) (l := 0) (o := 0) (.inl ⟨rfl, rfl, rfl, rfl, rfl⟩) (chunk s 0) (chunk v 0) (hc 0)
  rw [← h1.1, ← h1.2.1, ← h1.2.2] at t1
  have t2 := state_step (by decide) t1 (chunk s 1) (chunk v 1) (hc 1)
  rw [← h2.1, ← h2.2.1, ← h2.2.2] at t2
  have t3 := state_step (by decide) t2 (chunk s 2) (chunk v 2) (hc 2)
  rw [← h3.1, ← h3.2.1, ← h3.2.2] at t3
  have t4 := state_step (by decide) t3 (chunk s 3) (chunk v 3) (hc 3)
  rw [← h4.1, ← h4.2.1, ← h4.2.2] at t4
  have eA : 0 + ∑ k, Ideal.exp (chunk s 0 k) + ∑ k, Ideal.exp (chunk s 1 k) + ∑ k, Ideal.exp (chunk s 2 k) + ∑ k, Ideal.exp (chunk s 3 k)
      = ∑ j, Ideal.exp (s j) := by
    rw [sum_chunks, Fin.sum_univ_four, zero_add]; rfl
  have eB : 0 + ∑ k, chunk v 0 k * Ideal.exp (chunk s 0 k) + ∑ k, chunk v 1 k * Ideal.exp (chunk s 1 k) + ∑ k, chunk v 2 k * Ideal.exp (chunk s 2 k)
      + ∑ k, chunk v 3 k * Ideal.exp (chunk s 3 k) = ∑ j, Ideal.exp (s j) * v j := by
    simp only [mul_comm (Ideal.exp (s _))]
    rw [sum_chunks (fun j => v j * Ideal.exp (s j)), Fin.sum_univ_four, zero_add]; rfl
  rw [eA, eB] at t4
  choose r hr using hs
  have hA : ∑ j, Ideal.exp (s j) = ((∑ j, Real.exp (r j) : ℝ) : EReal) := by
    simp only [hr, exp_real, coe_sum]
  have pA : 0 < ∑ j, Real.exp (r j) := Finset.sum_pos (fun j _ => Real.exp_pos _) ⟨0, Finset.mem_univ _⟩
  unfold mean
  rw [hA] at t4 ⊢
  rcases t4 with ⟨-, -, -, e, -⟩ | ⟨μ, -, hl, ho⟩
  · exact absurd (EReal.coe_eq_zero.mp e) pA.ne'
  · rw [hl, ho]
    exact div_scaled _ (Real.exp_pos _) _ pA _

/-- The scale of the scores may go in front of the sum over the features or into its terms. -/
theorem score_scale {n : ℕ} (a k : Fin n → EReal) (σ : ℝ) (hσ : 0 ≤ σ) : ∑ t, a t * (σ : EReal) * k t = (∑ t, a t * k t) * (σ : EReal) := by
  rw [mul_comm (∑ t, a t * k t), mul_sum _ _ hσ]
  refine Finset.sum_congr rfl fun t _ => ?_
  rw [mul_right_comm, mul_comm]

end Cert.RingProof

end
-- ==== Proof.RefValue.lean ====
/-
# The reference's values at an index

The reference's own operations, one chunk of keys at a time, and what they are at an index over the extended reals.
-/
module

public import proofs.«01_k».proof.Proof.Attn
public import proofs.«01_k».proof.Proof.Gen.ReferenceIdeal

@[expose] public section

set_option maxRecDepth 16384

noncomputable section

namespace Cert.RefValue

open Cert.ReferenceIdeal Cert.ReferenceIdeal.Gen
open Idealize.ShloMosaic
open Cert.RingProof (newMax newSum chunk)

/-- An array of extended reals of a shape. -/
abbrev Arr (s : Shape) : Type := FVec Ideal s .f32

/-! ## The operations -/

/-- The queries, head by head. -/
def q0 (x : Arr S1x1024x1024) (wq : Arr S1024x4096) : Arr S1x1024x4096 :=
  Host.dotGeneral dot_S1x1024x1024_S1024x4096_S1x1024x4096_2_0_01_1_n_n none x wq
def qs (x : Arr S1x1024x1024) (wq : Arr S1024x4096) : Arr S1x1024x32x128 :=
  shapeCast S1x1024x32x128 (q0 x wq) shapeCasts_S1x1024x4096_S1x1024x32x128

/-- A chunk of the keys or of the values. -/
def part (o : ℕ) (h : S1x4096x32x128.Slices ![0, o, 0, 0] S1x1024x32x128) (k : Arr S1x4096x32x128) : Arr S1x1024x32x128 :=
  extractStridedSlice S1x1024x32x128 ![0, o, 0, 0] k h

/-- The scores of a chunk; -/
def sc (q k : Arr S1x1024x32x128) : Arr S1x32x1024x1024 :=
  mulf (Host.dotGeneral dot_S1x1024x32x128_S1x1024x32x128_S1x32x1024x1024_3_3_1_1_02_02 none q k)
    (broadcastInDim S1x32x1024x1024 ![] bcast_S_S1x32x1024x1024 (constant (F := Ideal) S_ .f32 0x3DB504F3#32))
/-- the running maximum; -/
def mx (m : Arr S1x32x1024x1) (s : Arr S1x32x1024x1024) : Arr S1x32x1024x1 :=
  maximumf m (broadcastInDim S1x32x1024x1 ![0, 1, 2] bcast_S1x32x1024_S1x32x1024x1_0_1_2
    (Host.reduce FloatOps.maximumf s (constant (F := Ideal) S_ .f32 0xFF800000#32) reducesTo_S1x32x1024x1024_S1x32x1024_d3 h_S_))
/-- the factor that rescales; -/
def al (m m' : Arr S1x32x1024x1) : Arr S1x32x1024x1 := Host.exp (subf m m')
/-- the weights; -/
def wt (s : Arr S1x32x1024x1024) (m' : Arr S1x32x1024x1) : Arr S1x32x1024x1024 :=
  Host.exp (subf s (broadcastInDim S1x32x1024x1024 ![0, 1, 2, 3] bcast_S1x32x1024x1_S1x32x1024x1024_0_1_2_3 m'))
/-- the running sum of the weights; -/
def ls (l a : Arr S1x32x1024x1) (p : Arr S1x32x1024x1024) : Arr S1x32x1024x1 :=
  addf (mulf l a) (broadcastInDim S1x32x1024x1 ![0, 1, 2] bcast_S1x32x1024_S1x32x1024x1_0_1_2
    (Host.reduceAdd p (constant (F := Ideal) S_ .f32 0x00000000#32) reducesTo_S1x32x1024x1024_S1x32x1024_d3 h_S_))
/-- a column of numbers along the features; -/
def wide (a : Arr S1x32x1024x1) : Arr S1x1024x32x128 :=
  broadcastInDim S1x1024x32x128 ![0, 1, 2, 3] bcast_S1x1024x32x1_S1x1024x32x128_0_1_2_3
    (transpose S1x1024x32x1 [0, 2, 1, 3] a transposes_S1x32x1024x1_S1x1024x32x1_0_2_1_3)
/-- and the running sum of the weighted values. -/
def os (o : Arr S1x1024x32x128) (a : Arr S1x32x1024x1) (p : Arr S1x32x1024x1024) (v : Arr S1x1024x32x128) : Arr S1x1024x32x128 :=
  addf (mulf o (wide a)) (transpose S1x1024x32x128 [0, 3, 1, 2]
    (Host.dotGeneral dot_S1x1024x32x128_S1x32x1024x1024_S1x32x128x1024_1_3_3_2_02_01 none v p) transposes_S1x32x128x1024_S1x1024x32x128_0_3_1_2)

/-- What is carried from chunk to chunk. -/
structure Carry where
  m : Arr S1x32x1024x1
  l : Arr S1x32x1024x1
  o : Arr S1x1024x32x128

/-- Before any chunk; -/
def start : Carry where
  m := broadcastInDim S1x32x1024x1 ![] bcast_S_S1x32x1024x1 (constant (F := Ideal) S_ .f32 0xFF800000#32)
  l := broadcastInDim S1x32x1024x1 ![] bcast_S_S1x32x1024x1 (constant (F := Ideal) S_ .f32 0x00000000#32)
  o := broadcastInDim S1x1024x32x128 ![] bcast_S_S1x1024x32x128 (constant (F := Ideal) S_ .f32 0x00000000#32)
/-- after one more. -/
def step (q k v : Arr S1x1024x32x128) (c : Carry) : Carry where
  m := mx c.m (sc q k)
  l := ls c.l (al c.m (mx c.m (sc q k))) (wt (sc q k) (mx c.m (sc q k)))
  o := os c.o (al c.m (mx c.m (sc q k))) (wt (sc q k) (mx c.m (sc q k))) v

variable (x : Arr S1x1024x1024) (wq : Arr S1024x4096) (k v : Arr S1x4096x32x128) (wo : Arr S4096x1024)

/-- The four chunks. -/
def c1 : Carry := step (qs x wq) (part 0 slices_S1x4096x32x128_S1x1024x32x128_0_0_0_0 k) (part 0 slices_S1x4096x32x128_S1x1024x32x128_0_0_0_0 v) start
def c2 : Carry := step (qs x wq) (part 1024 slices_S1x4096x32x128_S1x1024x32x128_0_1024_0_0 k) (part 1024 slices_S1x4096x32x128_S1x1024x32x128_0_1024_0_0 v) (c1 x wq k v)
def c3 : Carry := step (qs x wq) (part 2048 slices_S1x4096x32x128_S1x1024x32x128_0_2048_0_0 k) (part 2048 slices_S1x4096x32x128_S1x1024x32x128_0_2048_0_0 v) (c2 x wq k v)
def c4 : Carry := step (qs x wq) (part 3072 slices_S1x4096x32x128_S1x1024x32x128_0_3072_0_0 k) (part 3072 slices_S1x4096x32x128_S1x1024x32x128_0_3072_0_0 v) (c3 x wq k v)

/-- The attention's output, -/
def att : Arr S1x1024x32x128 := Host.divf (c4 x wq k v).o (wide (c4 x wq k v).l)
/-- and the reference's result. -/
def res : Arr S1x1024x1024 :=
  Host.dotGeneral dot_S1x1024x4096_S4096x1024_S1x1024x1024_2_0_01_1_n_n none
    (shapeCast S1x1024x4096 (att x wq k v) shapeCasts_S1x1024x32x128_S1x1024x4096) wo

/-! ## At an index -/

theorem q0_at (i : Fin 1024) (e : Fin 4096) : q0 x wq (ix3 0 i e) = ∑ d : Fin 1024, x (ix3 0 i d) * wq (ix2 d e) := by
  pointwise [q0]
theorem qs_at (i : Fin 1024) (h : Fin 32) (t : Fin 128) : qs x wq (ix4 0 i h t) = q0 x wq (ix3 0 i ⟨h.val * 128 + t.val, by omega⟩) := by
  pointwise [qs]
theorem part_at (o : ℕ) (H : S1x4096x32x128.Slices ![0, o, 0, 0] S1x1024x32x128) (j : Fin 1024) (h : Fin 32) (t : Fin 128) (hj : o + j.val < 4096) :
    part o H k (ix4 0 j h t) = k (ix4 0 ⟨o + j.val, hj⟩ h t) := by
  pointwise [part]
theorem sc_at (q k : Arr S1x1024x32x128) (h : Fin 32) (i j : Fin 1024) :
    sc q k (ix4 0 h i j) = (∑ t : Fin 128, q (ix4 0 i h t) * k (ix4 0 j h t)) * Ideal.ofBits .f32 0x3DB504F3#32 := by
  pointwise [sc]
/-- The word of minus infinity. -/
theorem neg_inf : Ideal.ofBits .f32 0xFF800000#32 = ⊥ := by
  simp [Ideal.ofBits, Ideal.ieee]
/-- The maximum over a chunk. -/
theorem top_at (s : Arr S1x32x1024x1024) (c : Arr S_) (h : Fin 32) (i : Fin 1024) :
    Host.reduce FloatOps.maximumf s c reducesTo_S1x32x1024x1024_S1x32x1024_d3 h_S_ (ix3 0 h i)
      = Finset.univ.fold max (c (Shape.Idx.first h_S_)) (fun j => s (ix4 0 h i j)) := by
  simp only [pointwise]
theorem max_at (m : Arr S1x32x1024x1) (r : Arr S1x32x1024) (h : Fin 32) (i : Fin 1024) :
    maximumf m (broadcastInDim S1x32x1024x1 ![0, 1, 2] bcast_S1x32x1024_S1x32x1024x1_0_1_2 r) (ix4 0 h i 0)
      = max (m (ix4 0 h i 0)) (r (ix3 0 h i)) := by
  pointwise
theorem mx_at (m : Arr S1x32x1024x1) (s : Arr S1x32x1024x1024) (h : Fin 32) (i : Fin 1024) :
    mx m s (ix4 0 h i 0) = newMax (m (ix4 0 h i 0)) (fun j => s (ix4 0 h i j)) := by
  have e : constant (F := Ideal) S_ .f32 0xFF800000#32 (Shape.Idx.first h_S_) = ⊥ := neg_inf
  unfold mx newMax
  rw [max_at, top_at, e]
theorem al_at (m m' : Arr S1x32x1024x1) (h : Fin 32) (i : Fin 1024) :
    al m m' (ix4 0 h i 0) = Ideal.exp (m (ix4 0 h i 0) - m' (ix4 0 h i 0)) := by
  pointwise [al]
theorem wt_at (s : Arr S1x32x1024x1024) (m' : Arr S1x32x1024x1) (h : Fin 32) (i j : Fin 1024) :
    wt s m' (ix4 0 h i j) = Ideal.exp (s (ix4 0 h i j) - m' (ix4 0 h i 0)) := by
  pointwise [wt]
theorem ls_at (l a : Arr S1x32x1024x1) (p : Arr S1x32x1024x1024) (h : Fin 32) (i : Fin 1024) :
    ls l a p (ix4 0 h i 0) = l (ix4 0 h i 0) * a (ix4 0 h i 0) + ∑ j : Fin 1024, p (ix4 0 h i j) := by
  pointwise [ls]
theorem wide_at (a : Arr S1x32x1024x1) (i : Fin 1024) (h : Fin 32) (t : Fin 128) : wide a (ix4 0 i h t) = a (ix4 0 h i 0) := by
  pointwise [wide]
theorem os_at (o : Arr S1x1024x32x128) (a : Arr S1x32x1024x1) (p : Arr S1x32x1024x1024) (v : Arr S1x1024x32x128) (i : Fin 1024) (h : Fin 32) (t : Fin 128) :
    os o a p v (ix4 0 i h t) = o (ix4 0 i h t) * wide a (ix4 0 i h t) + ∑ j : Fin 1024, v (ix4 0 j h t) * p (ix4 0 h i j) := by
  pointwise [os]
theorem start_m (h : Fin 32) (i : Fin 1024) : start.m (ix4 0 h i 0) = ⊥ := by
  pointwise [start]
  exact neg_inf
theorem start_l (h : Fin 32) (i : Fin 1024) : start.l (ix4 0 h i 0) = 0 := by
  pointwise [start]
theorem start_o (i : Fin 1024) (h : Fin 32) (t : Fin 128) : start.o (ix4 0 i h t) = 0 := by
  pointwise [start]
theorem att_at (i : Fin 1024) (h : Fin 32) (t : Fin 128) : att x wq k v (ix4 0 i h t) = Ideal.div ((c4 x wq k v).o (ix4 0 i h t)) ((c4 x wq k v).l (ix4 0 h i 0)) := by
  pointwise [att, wide]
theorem res_at (i n : Fin 1024) : res x wq k v wo (ix3 0 i n) =
    ∑ p : Fin 4096, att x wq k v (ix4 0 i ⟨p.val / 128, by omega⟩ ⟨p.val % 128, Nat.mod_lt _ (by decide)⟩) * wo (ix2 p n) := by
  pointwise [res]

/-! ## The mean -/

/-- The score of a query with a key; -/
def score (i : Fin 1024) (h : Fin 32) (j : Fin 4096) : EReal :=
  (∑ t : Fin 128, qs x wq (ix4 0 i h t) * k (ix4 0 j h t)) * Ideal.ofBits .f32 0x3DB504F3#32
/-- a feature of a value. -/
def value (h : Fin 32) (t : Fin 128) (j : Fin 4096) : EReal := v (ix4 0 j h t)

theorem sc_chunk (o : ℕ) (H : S1x4096x32x128.Slices ![0, o, 0, 0] S1x1024x32x128) (q : Fin 4) (ho : o = 1024 * q.val) (i : Fin 1024) (h : Fin 32) :
    (fun j => sc (qs x wq) (part o H k) (ix4 0 h i j)) = chunk (score x wq k i h) q := by
  subst ho
  funext j
  have e : ∀ t : Fin 128, part (1024 * q.val) H k (ix4 0 j h t) = k (ix4 0 ⟨1024 * q.val + j.val, by omega⟩ h t) :=
    fun t => part_at k _ H j h t (by omega)
  rw [sc_at]
  simp only [e]
  rfl

theorem value_chunk (o : ℕ) (H : S1x4096x32x128.Slices ![0, o, 0, 0] S1x1024x32x128) (q : Fin 4) (ho : o = 1024 * q.val) (h : Fin 32) (t : Fin 128) :
    (fun j => part o H v (ix4 0 j h t)) = chunk (value v h t) q := by
  subst ho
  funext j
  exact part_at v _ H j h t (by omega)

/-- One chunk, at a query, a head and a feature. -/
theorem step_at (o : ℕ) (H : S1x4096x32x128.Slices ![0, o, 0, 0] S1x1024x32x128) (q : Fin 4) (ho : o = 1024 * q.val) (c : Carry)
    (i : Fin 1024) (h : Fin 32) (t : Fin 128) :
    (step (qs x wq) (part o H k) (part o H v) c).m (ix4 0 h i 0) = newMax (c.m (ix4 0 h i 0)) (chunk (score x wq k i h) q)
    ∧ (step (qs x wq) (part o H k) (part o H v) c).l (ix4 0 h i 0)
        = newSum (c.m (ix4 0 h i 0)) (c.l (ix4 0 h i 0)) (chunk (score x wq k i h) q) (fun _ => 1)
    ∧ (step (qs x wq) (part o H k) (part o H v) c).o (ix4 0 i h t)
        = newSum (c.m (ix4 0 h i 0)) (c.o (ix4 0 i h t)) (chunk (score x wq k i h) q) (chunk (value v h t) q) := by
  have em : mx c.m (sc (qs x wq) (part o H k)) (ix4 0 h i 0) = newMax (c.m (ix4 0 h i 0)) (chunk (score x wq k i h) q) := by
    rw [mx_at, sc_chunk x wq k o H q ho]
  have es : ∀ j, sc (qs x wq) (part o H k) (ix4 0 h i j) = chunk (score x wq k i h) q j :=
    fun j => congrFun (sc_chunk x wq k o H q ho i h) j
  have ev : ∀ j, part o H v (ix4 0 j h t) = chunk (value v h t) q j := fun j => congrFun (value_chunk v o H q ho h t) j
  refine ⟨em, ?_, ?_⟩
  · show ls c.l _ _ (ix4 0 h i 0) = _
    simp only [ls_at, al_at, wt_at, em, es, newSum, one_mul]
  · show os c.o _ _ _ (ix4 0 i h t) = _
    simp only [os_at, wide_at, al_at, wt_at, em, es, ev, newSum]

/-- The attention's output is the weighted mean of the values, the scores being finite. -/
theorem att_mean (i : Fin 1024) (h : Fin 32) (t : Fin 128) (hs : ∀ j, ∃ r : ℝ, score x wq k i h j = r) :
    att x wq k v (ix4 0 i h t) = RingProof.mean (score x wq k i h) (value v h t) := by
  rw [att_at]
  exact RingProof.online (score x wq k i h) (value v h t) hs
    ⟨start_m h i, start_l h i, start_o i h t⟩
    (step_at x wq k v 0 _ 0 rfl start i h t) (step_at x wq k v 1024 _ 1 rfl (c1 x wq k v) i h t)
    (step_at x wq k v 2048 _ 2 rfl (c2 x wq k v) i h t) (step_at x wq k v 3072 _ 3 rfl (c3 x wq k v) i h t)

end Cert.RefValue

end
-- ==== Proof.Value.lean ====
/-
# The kernel's result is the reference's

Over the extended reals: the block every device ends with is its block of the array the reference computes.
-/
module

public import proofs.«01_k».proof.Proof.KValue
public import proofs.«01_k».proof.Proof.RefValue

@[expose] public section

set_option maxRecDepth 16384

noncomputable section

namespace Cert.RingProof

open Cert.KernelIdeal Cert.KernelIdeal.Gen
open Idealize.ShloMosaic
open Idealize.ShloMosaic.TcCoe

/-- The scale is a number, and not negative. -/
theorem scale_real : ∃ σ : ℝ, 0 ≤ σ ∧ Ideal.ofBits .f32 0x3DB504F3#32 = (σ : EReal) := by
  refine ⟨11863283 * (2 : ℝ) ^ (-27 : ℤ), by positivity, ?_⟩
  simp [Ideal.ofBits, Ideal.ieee]

theorem dev_lt (c : Dev nD) : c.val < 4 := c.isLt

/-! ## One device's heads -/

section
variable (I : Ins Ideal) (c : Dev nD)

/-- A row's scores against a head's keys, as the kernel takes them. -/
def kscore (j : Dev nD) (r : Fin 256) (h : Fin 8) (i : Fin 4096) : EReal :=
  ∑ t : Fin 128, (∑ e : Fin 1024, I.x j (ix3 0 r e) * I.wq c (ix2 e ⟨128 * h.val + t.val, by omega⟩)) * SC
    * I.k c (ix4 0 i ⟨8 * c.val + h.val, by have := dev_lt c; omega⟩ t)

/-- A head's output is the mean of its values under these scores. -/
theorem HO_at (j : Dev nD) (h : Fin 8) (r : Fin 256) (t : Fin 128) :
    HO I c j h (ix2 r t)
      = mean (kscore I c j r h) (fun i => I.v c (ix4 0 i ⟨8 * c.val + h.val, by have := dev_lt c; omega⟩ t)) := by
  have hh : 8 * c.val + h.val < 32 := by have := dev_lt c; omega
  have e : ∀ i : Fin 4096, headP h (QB I c j) (KB I c h) (ix2 r i) = Ideal.exp (kscore I c j r h i) := fun i => by
    rw [headP_at h _ _ r i (fun t => by omega)]
    refine congrArg Ideal.exp (Finset.sum_congr rfl fun t' _ => ?_)
    rw [QB_at]
    exact congrArg _ (KB_at _ c h i t' hh)
  have e' : ∀ i : Fin 4096, VB I c h (ix3 0 i t) = I.v c (ix4 0 i ⟨8 * c.val + h.val, hh⟩ t) := fun i => KB_at _ c h i t hh
  unfold HO
  rw [headOut_at]
  simp only [e, e']
  rfl

theorem AR_at (j : Dev nD) (r : Fin 256) (p : Fin 1024) :
    AR I c j (ix2 r p) = HO I c j ⟨p.val / 128, by omega⟩ (ix2 r ⟨p.val % 128, Nat.mod_lt _ (by decide)⟩) := by
  have hj := dev_lt j
  unfold AR AO
  have e1 : (⟨(256 * j.val + r.val) / 256, by show _ < 4; omega⟩ : Dev nD) = j := Fin.ext (by show (256 * j.val + r.val) / 256 = j.val; omega)
  have e2 : (⟨(256 * j.val + r.val) % 256, Nat.mod_lt _ (by decide)⟩ : Fin 256) = r := Fin.ext (by show (256 * j.val + r.val) % 256 = r.val; omega)
  show HO I c ⟨(256 * j.val + r.val) / 256, _⟩ _ (ix2 ⟨(256 * j.val + r.val) % 256, _⟩ _) = _
  rw [e1, e2]
  rfl

end

/-! ## The ring's sum -/

section
variable (I : Ins Ideal)

/-- What device `d` adds to row block `j`. -/
def share (d j : Dev nD) (r : Fin 256) (n : Fin 1024) : EReal := ∑ p : Fin 1024, AR I d j (ix2 r p) * I.wo d (ix2 p n)

theorem WO_at (d : Dev nD) (p n : Fin 1024) : WO I d (ix2 p n) = I.wo d (ix2 p n) := by
  unfold WO
  pointwise [k0_pay2]

theorem ring_comm (g : Fin 4 → EReal) (c : Fin 4) :
    g c + (g (prv c) + (g (prv (prv c)) + g (prv (prv (prv c))))) = ∑ d, g d := by
  have h : ∀ c : Fin 4, prv c = c + 3 := by decide
  rw [Fin.sum_univ_four]
  simp only [h]
  fin_cases c
  · show g 0 + (g 3 + (g 2 + g 1)) = _; ac_rfl
  · show g 1 + (g 0 + (g 3 + g 2)) = _; ac_rfl
  · show g 2 + (g 1 + (g 0 + g 3)) = _; ac_rfl
  · show g 3 + (g 2 + (g 1 + g 0)) = _; ac_rfl

/-- The result block is the sum of the four shares. -/
theorem OUT_at (c : Dev nD) (r : Fin 256) (n : Fin 1024) : OUT I c (ix3 0 r n) = ∑ d, share I d c r n := by
  have h1 : back 1 (prv (prv (prv c))) = c := by revert c; decide
  have h2 : back 2 (prv (prv c)) = c := by revert c; decide
  have h3 : back 3 (prv c) = c := by revert c; decide
  unfold OUT S2 S1 S0
  rw [pay78_at, pay77_at, pay77_at, pay44_at, h1, h2, h3]
  simp only [WO_at]
  exact ring_comm (fun d => share I d c r n) c

end

/-! ## Against the reference -/

section
variable (I : Ins Ideal) (X : RefValue.Arr ⟨3, ![1, 1024, 1024]⟩) (W : RefValue.Arr ⟨2, ![1024, 4096]⟩)
  (K V : RefValue.Arr ⟨4, ![1, 4096, 32, 128]⟩) (O : RefValue.Arr ⟨2, ![4096, 1024]⟩)

/-- The devices' inputs are their blocks of these arrays. -/
structure Blocks : Prop where
  x : ∀ (c : Dev nD) (r : Fin 256) (e : Fin 1024), I.x c (ix3 0 r e) = X (ix3 0 ⟨256 * c.val + r.val, by have := dev_lt c; omega⟩ e)
  wq : ∀ (c : Dev nD) (e p : Fin 1024), I.wq c (ix2 e p) = W (ix2 e ⟨1024 * c.val + p.val, by have := dev_lt c; omega⟩)
  k : ∀ c : Dev nD, I.k c = K
  v : ∀ c : Dev nD, I.v c = V
  wo : ∀ (c : Dev nD) (p n : Fin 1024), I.wo c (ix2 p n) = O (ix2 ⟨1024 * c.val + p.val, by have := dev_lt c; omega⟩ n)

variable {I X W K V O}

/-- The kernel scales the queries, the reference the scores. -/
theorem kscore_eq (B : Blocks I X W K V O) (c j : Dev nD) (r : Fin 256) (h : Fin 8) :
    kscore I c j r h = RefValue.score X W K ⟨256 * j.val + r.val, by have := dev_lt j; omega⟩ ⟨8 * c.val + h.val, by have := dev_lt c; omega⟩ := by
  obtain ⟨σ, h0, hσ⟩ := scale_real
  have hc := dev_lt c
  funext i
  unfold kscore RefValue.score SC
  rw [hσ, score_scale _ _ σ h0, B.k c]
  refine congrArg (· * (σ : EReal)) (Finset.sum_congr rfl fun t _ => ?_)
  rw [RefValue.qs_at, RefValue.q0_at]
  refine congrArg (· * _) (Finset.sum_congr rfl fun e _ => ?_)
  rw [B.x, B.wq]
  have e' : (⟨1024 * c.val + (128 * h.val + t.val), by omega⟩ : Fin 4096) = ⟨(8 * c.val + h.val) * 128 + t.val, by omega⟩ :=
    Fin.ext (by show 1024 * c.val + (128 * h.val + t.val) = (8 * c.val + h.val) * 128 + t.val; omega)
  rw [← e']

/-- Scores of finite inputs are finite. -/
theorem score_real (hX : ∀ i, ∃ a : ℝ, X i = a) (hW : ∀ i, ∃ a : ℝ, W i = a) (hK : ∀ i, ∃ a : ℝ, K i = a)
    (i : Fin 1024) (h : Fin 32) (j : Fin 4096) : ∃ a : ℝ, RefValue.score X W K i h j = a := by
  obtain ⟨σ, -, hσ⟩ := scale_real
  refine mul_real (sum_real _ _ fun t => mul_real ?_ (hK _)) ⟨σ, hσ⟩
  rw [RefValue.qs_at, RefValue.q0_at]
  exact sum_real _ _ fun e => mul_real (hX _) (hW _)

/-- A device's result block is its block of the reference's result. -/
theorem OUT_eq (B : Blocks I X W K V O) (hX : ∀ i, ∃ a : ℝ, X i = a) (hW : ∀ i, ∃ a : ℝ, W i = a) (hK : ∀ i, ∃ a : ℝ, K i = a)
    (c : Dev nD) (r : Fin 256) (n : Fin 1024) :
    OUT I c (ix3 0 r n) = RefValue.res X W K V O (ix3 0 ⟨256 * c.val + r.val, by have := dev_lt c; omega⟩ n) := by
  rw [OUT_at, RefValue.res_at, sum_chunks]
  refine Finset.sum_congr rfl fun d _ => Finset.sum_congr rfl fun p _ => ?_
  have hd := dev_lt d
  have e1 : (⟨(1024 * d.val + p.val) / 128, by omega⟩ : Fin 32) = ⟨8 * d.val + p.val / 128, by omega⟩ :=
    Fin.ext (by show (1024 * d.val + p.val) / 128 = 8 * d.val + p.val / 128; omega)
  have e2 : (⟨(1024 * d.val + p.val) % 128, Nat.mod_lt _ (by decide)⟩ : Fin 128) = ⟨p.val % 128, Nat.mod_lt _ (by decide)⟩ :=
    Fin.ext (by show (1024 * d.val + p.val) % 128 = p.val % 128; omega)
  rw [AR_at, HO_at, kscore_eq B, B.v, B.wo, RefValue.att_mean _ _ _ _ _ _ _ (score_real hX hW hK _ _), e1, e2]
  rfl

end

end Cert.RingProof

end
-- ==== Proof.Pre.lean ====
/-
# The precondition

What the printed predicate says of the kernel's inputs: the rows, the query weights and the keys are numbers.
-/
module

public import proofs.«01_k».proof.Pre_finite_KernelIdeal
public import proofs.«01_k».proof.Pre_finite_ReferenceIdeal
public import Idealize.ShloMosaic.Lib.ReduceAll
public import Idealize.ShloMosaic.Lib.Pointwise

@[expose] public section

set_option maxRecDepth 16384

noncomputable section

namespace Cert.Pre_finite_KernelIdeal

open Idealize.ShloMosaic

/-- The side conditions of the predicate over one device's shapes hold. -/
theorem facts : Facts where
  bcast_S_S1x256x1024 := by decide
  reducesTo_S1x256x1024_S_d0_1_2 := by decide
  h_S_ := by decide
  bcast_S_S1024x1024 := by decide
  reducesTo_S1024x1024_S_d0_1 := by decide
  bcast_S_S1x4096x32x128 := by decide
  reducesTo_S1x4096x32x128_S_d0_1_2_3 := by decide

/-- A value whose magnitude is below the word of infinity is a number. -/
theorem real_of_lt (a : EReal) (h : FloatOps.cmpf (F := Ideal) (φ := .f32) .olt (FloatOps.absf (F := Ideal) (φ := .f32) a) (Ideal.ofBits .f32 0x7F800000#32) = 1#1) :
    ∃ r : ℝ, a = r := by
  have hi : Ideal.ofBits .f32 0x7F800000#32 = ⊤ := by simp [Ideal.ofBits, Ideal.ieee]
  rw [hi] at h
  induction a using EReal.rec with
  | bot => exact absurd h (by simp [FloatOps.cmpf, FloatOps.absf, Ideal.cmp])
  | coe r => exact ⟨r, rfl⟩
  | top => exact absurd h (by simp [FloatOps.cmpf, FloatOps.absf, Ideal.cmp])

/-- An array all of whose magnitudes are below infinity holds numbers. -/
theorem real_of_all {s : Shape} {axes : List (Fin s.rank)} (a : FVec Ideal s .f32) (hb : S_.BroadcastsInDim s (![] : Fin 0 → Fin s.rank)) (hr : s.ReducesTo axes S_) (hu : 0 < S_.numel)
    (h : Host.reduce IntOp.andi (cmpf .olt (Host.absf a) (broadcastInDim s ![] hb (constant (F := Ideal) S_ .f32 0x7F800000#32))) (constantI S_ 1 1#1) hr hu
      = fun _ => 1#1) (i : s.Idx) : ∃ r : ℝ, a i = r := by
  haveI : Subsingleton S_.Idx := ⟨fun _ _ => funext fun b => b.elim0⟩
  exact real_of_lt (a i) (Host.reduce_andi_all _ _ hr hu _ (congrFun h default) i)

/-- The precondition: the rows, the query weights and the keys are numbers. -/
theorem real_of_fn [hF : Facts] (a0 : FVec Ideal S1x256x1024 .f32) (a1 : FVec Ideal S1024x1024 .f32) (a2 a3 : FVec Ideal S1x4096x32x128 .f32)
    (a4 : FVec Ideal S1024x1024 .f32) (h : fn (F := Ideal) a0 a1 a2 a3 a4 = fun _ => 1#1) :
    (∀ i, ∃ r : ℝ, a0 i = r) ∧ (∀ i, ∃ r : ℝ, a1 i = r) ∧ (∀ i, ∃ r : ℝ, a2 i = r) := by
  have h' : ∀ j, _ = 1#1 := fun j => congrFun h j
  have e : ∀ j, _ ∧ _ := fun j => IntOp.andi_eq_one.1 (h' j)
  have e' : ∀ j, _ ∧ _ := fun j => IntOp.andi_eq_one.1 (e j).1
  exact ⟨real_of_all a0 _ _ _ (funext fun j => (e' j).1), real_of_all a1 _ _ _ (funext fun j => (e' j).2), real_of_all a2 _ _ _ (funext fun j => (e j).2)⟩

end Cert.Pre_finite_KernelIdeal

namespace Cert.Pre_finite_ReferenceIdeal

open Idealize.ShloMosaic

/-- The side conditions of the predicate over the whole shapes hold. -/
theorem facts : Facts where
  bcast_S_S1x1024x1024 := by decide
  reducesTo_S1x1024x1024_S_d0_1_2 := by decide
  h_S_ := by decide
  bcast_S_S1024x4096 := by decide
  reducesTo_S1024x4096_S_d0_1 := by decide
  bcast_S_S1x4096x32x128 := by decide
  reducesTo_S1x4096x32x128_S_d0_1_2_3 := by decide

end Cert.Pre_finite_ReferenceIdeal

end
-- ==== Proof.Algebraic.lean ====
/-
# The kernel computes the reference

Given the same inputs, the rows, the query weights and the keys being numbers, every device of the idealized kernel
ends with its block of what the reference computes.
-/
module

public import proofs.«01_k».proof.Proof.Frames
public import proofs.«01_k».proof.Proof.Value
public import proofs.«01_k».proof.Proof.Pre
public import Idealize.ShloMosaic.Lib.Layout
public import Idealize.ShloMosaic.Lib.Pipeline.ValueKit.Geometry

@[expose] public section

set_option maxRecDepth 16384

noncomputable section

namespace Cert.RingProof

open Cert.KernelIdeal Cert.KernelIdeal.Gen
open Idealize.ShloMosaic Idealize.SL.Sem
open Idealize.ShloMosaic.TcCoe

/-! ## The windows are the arrays -/

/-- Each window's one block is its whole array: of the rows, -/
theorem read_rows {F : FTy → Type} [FloatOps F] (f : S1x256x1024.Idx → Elt F .f32) : (win0_0.blk (0 : Fin 1)).view.read (Elt F) f = f := by
  funext x
  refine congrArg f (funext fun b => Fin.ext ?_)
  exact Pipeline.Window.rect_emb_val_of_index_zero win0_0 (0 : Fin 1) b rfl x

/-- of the query weights, -/
theorem read_wq {F : FTy → Type} [FloatOps F] (f : S1024x1024.Idx → Elt F .f32) : (win0_1.blk (0 : Fin 1)).view.read (Elt F) f = f := by
  funext x
  refine congrArg f (funext fun b => Fin.ext ?_)
  exact Pipeline.Window.rect_emb_val_of_index_zero win0_1 (0 : Fin 1) b rfl x

/-- of the output weights, -/
theorem read_wo {F : FTy → Type} [FloatOps F] (f : S1024x1024.Idx → Elt F .f32) : (win0_2.blk (0 : Fin 1)).view.read (Elt F) f = f := by
  funext x
  refine congrArg f (funext fun b => Fin.ext ?_)
  exact Pipeline.Window.rect_emb_val_of_index_zero win0_2 (0 : Fin 1) b rfl x

/-- and of the result: the result array ends holding what the body left. -/
theorem out_array (m : (ℓ : Loc nD τ sig) → Buf (Elt Ideal) ℓ) (ρ : Dev nD → PrngReg) (c : Dev nD) :
    (dats m ρ 0 c).arrAt 3 cfg0.N = OUT (insOf m) c :=
  (dats m ρ 0 c).arrAt_eq_of_after_last 3 t₀ (by decide +kernel) _ fun _ => rfl

/-! ## The devices' blocks -/

/-- Rows cut in four: row `r` of block `c` is row `256 c + r`. -/
theorem block_rows (v : (⟨3, ![1, 1024, 1024]⟩ : Shape).Idx → EReal) (c : Fin 4) (r : Fin 256) (e : Fin 1024) :
    Layout.block ⟨3, ![1, 256, 1024]⟩ ⟨3, ![1, 1024, 1024]⟩ 1 4 c v (by decide) (ix3 0 r e) = v (ix3 0 ⟨256 * c.val + r.val, by omega⟩ e) := by
  refine congrArg v (funext fun b => Fin.ext ?_)
  fin_cases b
  · rfl
  · show c.val * 256 + r.val = 256 * c.val + r.val
    omega
  · rfl

/-- Columns cut in four, -/
theorem block_cols (v : (⟨2, ![1024, 4096]⟩ : Shape).Idx → EReal) (c : Fin 4) (e p : Fin 1024) :
    Layout.block ⟨2, ![1024, 1024]⟩ ⟨2, ![1024, 4096]⟩ 1 4 c v (by decide) (ix2 e p) = v (ix2 e ⟨1024 * c.val + p.val, by omega⟩) := by
  refine congrArg v (funext fun b => Fin.ext ?_)
  fin_cases b
  · rfl
  · show c.val * 1024 + p.val = 1024 * c.val + p.val
    omega

/-- and the rows of a matrix cut in four. -/
theorem block_mrows (v : (⟨2, ![4096, 1024]⟩ : Shape).Idx → EReal) (c : Fin 4) (p n : Fin 1024) :
    Layout.block ⟨2, ![1024, 1024]⟩ ⟨2, ![4096, 1024]⟩ 0 4 c v (by decide) (ix2 p n) = v (ix2 ⟨1024 * c.val + p.val, by omega⟩ n) := by
  refine congrArg v (funext fun b => Fin.ext ?_)
  fin_cases b
  · show c.val * 1024 + p.val = 1024 * c.val + p.val
    omega
  · rfl

/-- An index of a block of rows is a row and a column. -/
theorem row_col (i : S1x256x1024.Idx) : ∃ (r : Fin 256) (n : Fin 1024), i = ix3 0 r n := by
  refine ⟨i 1, i 2, funext fun b => Fin.ext ?_⟩
  fin_cases b
  · exact Nat.lt_one_iff.mp (i 0).isLt
  · rfl
  · rfl

/-- Every row is in a block, so an array whose blocks hold numbers holds numbers; -/
theorem real_rows (v : (⟨3, ![1, 1024, 1024]⟩ : Shape).Idx → EReal)
    (h : ∀ (c : Fin 4) i, ∃ a : ℝ, Layout.block ⟨3, ![1, 256, 1024]⟩ ⟨3, ![1, 1024, 1024]⟩ 1 4 c v (by decide) i = a) (i) : ∃ a : ℝ, v i = a := by
  have h1 : (i 1).val < 1024 := (i 1).isLt
  obtain ⟨a, ha⟩ := h ⟨(i 1).val / 256, by omega⟩ (ix3 0 ⟨(i 1).val % 256, Nat.mod_lt _ (by decide)⟩ (i 2))
  refine ⟨a, Eq.trans ?_ ((block_rows _ _ _ _).symm.trans ha)⟩
  refine congrArg v (funext fun b => Fin.ext ?_)
  fin_cases b
  · exact Nat.lt_one_iff.mp (i 0).isLt
  · show (i 1).val = 256 * ((i 1).val / 256) + (i 1).val % 256
    omega
  · rfl

/-- the same of columns. -/
theorem real_cols (v : (⟨2, ![1024, 4096]⟩ : Shape).Idx → EReal)
    (h : ∀ (c : Fin 4) i, ∃ a : ℝ, Layout.block ⟨2, ![1024, 1024]⟩ ⟨2, ![1024, 4096]⟩ 1 4 c v (by decide) i = a) (i) : ∃ a : ℝ, v i = a := by
  have h1 : (i 1).val < 4096 := (i 1).isLt
  obtain ⟨a, ha⟩ := h ⟨(i 1).val / 1024, by omega⟩ (ix2 (i 0) ⟨(i 1).val % 1024, Nat.mod_lt _ (by decide)⟩)
  refine ⟨a, Eq.trans ?_ ((block_cols _ _ _ _).symm.trans ha)⟩
  refine congrArg v (funext fun b => Fin.ext ?_)
  fin_cases b
  · rfl
  · show (i 1).val = 1024 * ((i 1).val / 1024) + (i 1).val % 1024
    omega

/-! ## The two runs -/

/-- The reference ends holding its operations' value. -/
theorem ref_run (m : (ℓ : Loc ReferenceIdeal.nD ReferenceIdeal.τ ReferenceIdeal.sig) → Buf (Elt Ideal) ℓ) (g : Dev ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      r.2.mem (((0 : Dev Cert.ReferenceIdeal.nD).tc : Thread Cert.ReferenceIdeal.nD Cert.ReferenceIdeal.τ).loc Cert.ReferenceIdeal.main_v101)
        = RefValue.res (m ((0 : Dev ReferenceIdeal.nD).tc.loc ReferenceIdeal.main_arg0)) (m ((0 : Dev ReferenceIdeal.nD).tc.loc ReferenceIdeal.main_arg1)) (m ((0 : Dev ReferenceIdeal.nD).tc.loc ReferenceIdeal.main_arg2)) (m ((0 : Dev ReferenceIdeal.nD).tc.loc ReferenceIdeal.main_arg3)) (m ((0 : Dev ReferenceIdeal.nD).tc.loc ReferenceIdeal.main_arg4))
      ∧ r.2.mem ((0 : Dev ReferenceIdeal.nD).tc.loc ReferenceIdeal.main_arg0) = m ((0 : Dev ReferenceIdeal.nD).tc.loc ReferenceIdeal.main_arg0)
      ∧ r.2.mem ((0 : Dev ReferenceIdeal.nD).tc.loc ReferenceIdeal.main_arg1) = m ((0 : Dev ReferenceIdeal.nD).tc.loc ReferenceIdeal.main_arg1)
      ∧ r.2.mem ((0 : Dev ReferenceIdeal.nD).tc.loc ReferenceIdeal.main_arg2) = m ((0 : Dev ReferenceIdeal.nD).tc.loc ReferenceIdeal.main_arg2)
      ∧ r.2.mem ((0 : Dev ReferenceIdeal.nD).tc.loc ReferenceIdeal.main_arg3) = m ((0 : Dev ReferenceIdeal.nD).tc.loc ReferenceIdeal.main_arg3)
      ∧ r.2.mem ((0 : Dev ReferenceIdeal.nD).tc.loc ReferenceIdeal.main_arg4) = m ((0 : Dev ReferenceIdeal.nD).tc.loc ReferenceIdeal.main_arg4)) := by
  haveI := Cert.ReferenceIdeal.Gen.facts
  hlo_run
  rfl

/-- From equal inputs, the rows, the query weights and the keys being numbers, every device of the idealized kernel ends
    with its block of what the reference computes, and both leave their arguments as they were. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.facts) := by
  intro m g m' g' hpre hagree
  refine ⟨_, θ_run_mono (run_main m g) fun r h c => ⟨?_, ((h.1 c).1 0).trans (arr_in m g c 0 (by decide)),
    ((h.1 c).1 1).trans (arr_in m g c 1 (by decide)), (h.1 c).2.1, (h.1 c).2.2, ((h.1 c).1 2).trans (arr_in m g c 2 (by decide))⟩, ref_run m' g'⟩
  rw [show r.2.mem (c.tc.loc main_v1) = _ from ((h.1 c).1 3).trans (out_array m g c)]
  have B : Blocks (insOf m) (m' ((0 : Dev ReferenceIdeal.nD).tc.loc ReferenceIdeal.main_arg0)) (m' ((0 : Dev ReferenceIdeal.nD).tc.loc ReferenceIdeal.main_arg1))
      (m' ((0 : Dev ReferenceIdeal.nD).tc.loc ReferenceIdeal.main_arg2)) (m' ((0 : Dev ReferenceIdeal.nD).tc.loc ReferenceIdeal.main_arg3))
      (m' ((0 : Dev ReferenceIdeal.nD).tc.loc ReferenceIdeal.main_arg4)) :=
    { x := fun c r e => (congrFun ((read_rows _).trans (hagree c).1) _).trans (block_rows _ c r e)
      wq := fun c e p => (congrFun ((read_wq _).trans (hagree c).2.1) _).trans (block_cols _ c e p)
      k := fun c => (hagree c).2.2.1
      v := fun c => (hagree c).2.2.2.1
      wo := fun c p n => (congrFun ((read_wo _).trans (hagree c).2.2.2.2) _).trans (block_mrows _ c p n) }
  have hfin := fun c => Pre_finite_KernelIdeal.real_of_fn (hF := Pre_finite_KernelIdeal.facts) _ _ _ _ _ (hpre c)
  funext i
  obtain ⟨r, n, rfl⟩ := row_col i
  refine (OUT_eq B (real_rows _ fun c i => ?_) (real_cols _ fun c i => ?_) (fun i => ?_) c r n).trans (block_rows _ c r n).symm
  · rw [← (hagree c).1]; exact (hfin c).1 i
  · rw [← (hagree c).2.1]; exact (hfin c).2.1 i
  · rw [← (hagree c).2.2.1]; exact (hfin c).2.2 i

end Cert.RingProof

end
-- ==== Proof.lean ====
/-
# The claims

The frames of the kernel, of its idealized form and of the reference, from Proof/Frames.lean, and that the idealized
kernel computes the reference, from Proof/Algebraic.lean. The idealized form is the kernel's own text, so there is
nothing to preserve.
-/
module

public import proofs.«01_k».proof.Defs
public import proofs.«01_k».proof.Proof.Frames
public import proofs.«01_k».proof.Proof.Algebraic

@[expose] public section

noncomputable section

namespace Cert.Proof

open Idealize.ShloMosaic Idealize.SL.Sem

/-- Every claim of Defs.lean. A frame under the precondition is the frame without it. -/
theorem claim : Cert.Claim := ⟨Cert.Kernel.Gen.facts, Cert.KernelIdeal.Gen.facts, Cert.ReferenceIdeal.Gen.facts,
  Cert.Pre_finite_KernelIdeal.facts, Cert.Pre_finite_ReferenceIdeal.facts,
  RingProof.frame_kernel, RingProof.frame_ideal, fun m ρ _ => RingProof.frame_ideal m ρ trivial,
  RingProof.frame_reference, fun m ρ _ => RingProof.frame_reference m ρ trivial, trivial, RingProof.algebraic⟩

end Cert.Proof

end
